-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x4096 : Shape := ⟨3, ![4, 3072, 4096]⟩
abbrev S4x3072 : Shape := ⟨2, ![4, 3072]⟩
abbrev S4096 : Shape := ⟨1, ![4096]⟩
abbrev S4096x6144 : Shape := ⟨2, ![4096, 6144]⟩
abbrev S6144 : Shape := ⟨1, ![6144]⟩
abbrev S4x3072x6144 : Shape := ⟨3, ![4, 3072, 6144]⟩
abbrev S12288x4096 : Shape := ⟨2, ![12288, 4096]⟩
abbrev S12288x6144 : Shape := ⟨2, ![12288, 6144]⟩
abbrev S1x4096 : Shape := ⟨2, ![1, 4096]⟩
abbrev S1x6144 : Shape := ⟨2, ![1, 6144]⟩
abbrev S4096x12288 : Shape := ⟨2, ![4096, 12288]⟩
abbrev S8x4096 : Shape := ⟨2, ![8, 4096]⟩
abbrev S256x4096 : Shape := ⟨2, ![256, 4096]⟩
abbrev S256x6144 : Shape := ⟨2, ![256, 6144]⟩
abbrev S4096x256 : Shape := ⟨2, ![4096, 256]⟩
abbrev S4x128 : Shape := ⟨2, ![4, 128]⟩
abbrev S128 : Shape := ⟨1, ![128]⟩
abbrev S1x128 : Shape := ⟨2, ![1, 128]⟩
abbrev S128x128 : Shape := ⟨2, ![128, 128]⟩
abbrev S256x128 : Shape := ⟨2, ![256, 128]⟩
abbrev S256x512 : Shape := ⟨2, ![256, 512]⟩
abbrev S512x6144 : Shape := ⟨2, ![512, 6144]⟩
abbrev S1x512 : Shape := ⟨2, ![1, 512]⟩
abbrev S512x256 : Shape := ⟨2, ![512, 256]⟩
abbrev S8x512 : Shape := ⟨2, ![8, 512]⟩
abbrev S32x8x512 : Shape := ⟨3, ![32, 8, 512]⟩
abbrev S256 : Shape := ⟨1, ![256]⟩
abbrev S256x1 : Shape := ⟨2, ![256, 1]⟩
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 18
  | .vmem => 21
  | .smem => 0
  | _ => 0

abbrev bufTy : (tb : Table) → Fin (tcTables nBuf tb) → BufTy
  | .hbm, ⟨0, _⟩ => ⟨S4x3072x4096, .fp8e4m3⟩
  | .hbm, ⟨1, _⟩ => ⟨S4x3072, .f32⟩
  | .hbm, ⟨2, _⟩ => ⟨S4x3072, .f32⟩
  | .hbm, ⟨3, _⟩ => ⟨S4096, .f32⟩
  | .hbm, ⟨4, _⟩ => ⟨S4096x6144, .fp8e4m3⟩
  | .hbm, ⟨5, _⟩ => ⟨S6144, .f32⟩
  | .hbm, ⟨6, _⟩ => ⟨S4x3072x6144, .bf16⟩
  | .hbm, ⟨7, _⟩ => ⟨S12288x4096, .fp8e4m3⟩
  | .hbm, ⟨8, _⟩ => ⟨S12288x6144, .bf16⟩
  | .hbm, ⟨9, _⟩ => ⟨S1x4096, .f32⟩
  | .hbm, ⟨10, _⟩ => ⟨S1x6144, .f32⟩
  | .hbm, ⟨11, _⟩ => ⟨S12288x4096, .bf16⟩
  | .hbm, ⟨12, _⟩ => ⟨S4096x12288, .bf16⟩
  | .hbm, ⟨13, _⟩ => ⟨S8x4096, .f32⟩
  | .hbm, ⟨14, _⟩ => ⟨S4096x6144, .f32⟩
  | .hbm, ⟨15, _⟩ => ⟨S4x3072x4096, .bf16⟩
  | .hbm, ⟨16, _⟩ => ⟨S_, .f32⟩
  | .hbm, ⟨17, _⟩ => ⟨S4096, .f32⟩
  | .local _ .vmem, ⟨0, _⟩ => ⟨S4x3072, .f32⟩
  | .local _ .vmem, ⟨1, _⟩ => ⟨S4x3072, .f32⟩
  | .local _ .vmem, ⟨2, _⟩ => ⟨S1x4096, .f32⟩
  | .local _ .vmem, ⟨3, _⟩ => ⟨S1x6144, .f32⟩
  | .local _ .vmem, ⟨4, _⟩ => ⟨S256x4096, .fp8e4m3⟩
  | .local _ .vmem, ⟨5, _⟩ => ⟨S256x4096, .fp8e4m3⟩
  | .local _ .vmem, ⟨6, _⟩ => ⟨S4096x6144, .fp8e4m3⟩
  | .local _ .vmem, ⟨7, _⟩ => ⟨S256x6144, .bf16⟩
  | .local _ .vmem, ⟨8, _⟩ => ⟨S256x6144, .bf16⟩
  | .local _ .vmem, ⟨9, _⟩ => ⟨S256x4096, .bf16⟩
  | .local _ .vmem, ⟨10, _⟩ => ⟨S256x4096, .bf16⟩
  | .local _ .vmem, ⟨11, _⟩ => ⟨S4096x256, .bf16⟩
  | .local _ .vmem, ⟨12, _⟩ => ⟨S4096x256, .bf16⟩
  | .local _ .vmem, ⟨13, _⟩ => ⟨S8x4096, .f32⟩
  | .local _ .vmem, ⟨14, _⟩ => ⟨S256x4096, .f32⟩
  | .local _ .vmem, ⟨15, _⟩ => ⟨S2048x1024, .bf16⟩
  | .local _ .vmem, ⟨16, _⟩ => ⟨S2048x1024, .bf16⟩
  | .local _ .vmem, ⟨17, _⟩ => ⟨S1024x2048, .bf16⟩
  | .local _ .vmem, ⟨18, _⟩ => ⟨S1024x2048, .bf16⟩
  | .local _ .vmem, ⟨19, _⟩ => ⟨S2048x2048, .f32⟩
  | .local _ .vmem, ⟨20, _⟩ => ⟨S2048x2048, .f32⟩
  | _, _ => ⟨S4x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![48], ![false]⟩

def k0_mult1 (i : grid0.Coords) : BitVec 32 :=
  let arg0 : BitVec 32 := BitVec.ofNat 32 (i 0).val
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let c0_i32_12 : BitVec 32 := 0#32
  let v31 : BitVec 32 := Scalar.addi v27 c0_i32_12
  v31
def k0_off1 (i : grid0.Coords) (c0_i32_12 : BitVec 32) : Fin 2 → Nat :=
  let c0 : Index := 0#32
  let arg0 : BitVec 32 := BitVec.ofNat 32 (i 0).val
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v31 : BitVec 32 := Scalar.addi v27 c0_i32_12
  let v32 : BitVec 32 := v31
  let v33 : Index := Scalar.indexCast v32
  ![0, v33.toNat]
def k0_mult2 (i : grid0.Coords) : BitVec 32 :=
  let arg0 : BitVec 32 := BitVec.ofNat 32 (i 0).val
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let c128_i32 : BitVec 32 := 128#32
  let v45 : BitVec 32 := Scalar.addi v27 c128_i32
  v45
def k0_mult3 (i : grid0.Coords) : BitVec 32 :=
  let arg0 : BitVec 32 := BitVec.ofNat 32 (i 0).val
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let c0_i32_17 : BitVec 32 := 0#32
  let v60 : BitVec 32 := Scalar.addi v27 c0_i32_17
  v60
def k0_mult4 (i : grid0.Coords) : BitVec 32 :=
  let arg0 : BitVec 32 := BitVec.ofNat 32 (i 0).val
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let c128_i32_21 : BitVec 32 := 128#32
  let v74 : BitVec 32 := Scalar.addi v27 c128_i32_21
  v74
@[reducible] def k0_t1_loop : Scf.Loop 32 :=
  let c0_i32_28 : BitVec 32 := 0#32
  let c8_i32 : BitVec 32 := 8#32
  let v95 : BitVec 32 := Scalar.addi c0_i32_28 c8_i32
  let c1_i32_29 : BitVec 32 := 1#32
  ⟨c0_i32_28, v95, c1_i32_29⟩
def k0_mult5 (k0_t1 : Fin k0_t1_loop.trips) : BitVec 32 :=
  let c0_i32_28 : BitVec 32 := 0#32
  let c1_i32_29 : BitVec 32 := 1#32
  let arg12 : BitVec 32 := Scf.iv c0_i32_28 c1_i32_29 k0_t1
  let c512_i32 : BitVec 32 := 512#32
  let v104 : BitVec 32 := Scalar.muli arg12 c512_i32
  v104
def k0_off2 (k0_t1 : Fin k0_t1_loop.trips) : Fin 2 → Nat :=
  let c0_i32_28 : BitVec 32 := 0#32
  let c1_i32_29 : BitVec 32 := 1#32
  let arg12 : BitVec 32 := Scf.iv c0_i32_28 c1_i32_29 k0_t1
  let c512_i32 : BitVec 32 := 512#32
  let v104 : BitVec 32 := Scalar.muli arg12 c512_i32
  let v105 : BitVec 32 := v104
  let v106 : Index := Scalar.indexCast v105
  let c0_37 : Index := 0#32
  ![v106.toNat, 0]
def k0_off3 (k0_t1 : Fin k0_t1_loop.trips) : Fin 2 → Nat :=
  let c0_41 : Index := 0#32
  let c0_i32_28 : BitVec 32 := 0#32
  let c1_i32_29 : BitVec 32 := 1#32
  let arg12 : BitVec 32 := Scf.iv c0_i32_28 c1_i32_29 k0_t1
  let c512_i32 : BitVec 32 := 512#32
  let v104 : BitVec 32 := Scalar.muli arg12 c512_i32
  let v105 : BitVec 32 := v104
  let v114 : Index := Scalar.indexCast v105
  ![0, v114.toNat]
def k0_off4 (k0_t1 : Fin k0_t1_loop.trips) : Fin 2 → Nat :=
  let c0_42 : Index := 0#32
  let c0_i32_28 : BitVec 32 := 0#32
  let c1_i32_29 : BitVec 32 := 1#32
  let arg12 : BitVec 32 := Scf.iv c0_i32_28 c1_i32_29 k0_t1
  let c512_i32 : BitVec 32 := 512#32
  let v104 : BitVec 32 := Scalar.muli arg12 c512_i32
  let v105 : BitVec 32 := v104
  let v120 : Index := Scalar.indexCast v105
  ![0, v120.toNat]
def k0_off5 (k0_t1 : Fin k0_t1_loop.trips) : Fin 2 → Nat :=
  let c0_i32_28 : BitVec 32 := 0#32
  let c1_i32_29 : BitVec 32 := 1#32
  let arg12 : BitVec 32 := Scf.iv c0_i32_28 c1_i32_29 k0_t1
  let c512_i32 : BitVec 32 := 512#32
  let v104 : BitVec 32 := Scalar.muli arg12 c512_i32
  let v105 : BitVec 32 := v104
  let v127 : Index := Scalar.indexCast v105
  let c0_43 : Index := 0#32
  ![v127.toNat, 0]
def k0_off6 (k0_t1 : Fin k0_t1_loop.trips) : Fin 2 → Nat :=
  let c0_44 : Index := 0#32
  let c0_i32_28 : BitVec 32 := 0#32
  let c1_i32_29 : BitVec 32 := 1#32
  let arg12 : BitVec 32 := Scf.iv c0_i32_28 c1_i32_29 k0_t1
  let c512_i32 : BitVec 32 := 512#32
  let v104 : BitVec 32 := Scalar.muli arg12 c512_i32
  let v105 : BitVec 32 := v104
  let v129 : Index := Scalar.indexCast v105
  ![0, v129.toNat]
@[reducible] def k0_t2_loop : Scf.Loop 32 :=
  let c0_i32_33 : BitVec 32 := 0#32
  let c8_i32_34 : BitVec 32 := 8#32
  let v103 : BitVec 32 := Scalar.addi c0_i32_33 c8_i32_34
  let c1_i32_35 : BitVec 32 := 1#32
  ⟨c0_i32_33, v103, c1_i32_35⟩
def k0_mult6 (k0_t2 : Fin k0_t2_loop.trips) : BitVec 32 :=
  let c0_i32_33 : BitVec 32 := 0#32
  let c1_i32_35 : BitVec 32 := 1#32
  let arg12 : BitVec 32 := Scf.iv c0_i32_33 c1_i32_35 k0_t2
  let c512_i32 : BitVec 32 := 512#32
  let v104 : BitVec 32 := Scalar.muli arg12 c512_i32
  v104
def k0_off7 (k0_t2 : Fin k0_t2_loop.trips) : Fin 2 → Nat :=
  let c0_37 : Index := 0#32
  let c0_i32_33 : BitVec 32 := 0#32
  let c1_i32_35 : BitVec 32 := 1#32
  let arg12 : BitVec 32 := Scf.iv c0_i32_33 c1_i32_35 k0_t2
  let c512_i32 : BitVec 32 := 512#32
  let v104 : BitVec 32 := Scalar.muli arg12 c512_i32
  let v105 : BitVec 32 := v104
  let v106 : Index := Scalar.indexCast v105
  ![0, v106.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨3, ![2, 3, 12], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceIdeal.lean ====
abbrev S4x3072x4096 : Shape := ⟨3, ![4, 3072, 4096]⟩
abbrev S4x3072 : Shape := ⟨2, ![4, 3072]⟩
abbrev S4096 : Shape := ⟨1, ![4096]⟩
abbrev S4096x6144 : Shape := ⟨2, ![4096, 6144]⟩
abbrev S6144 : Shape := ⟨1, ![6144]⟩
abbrev S4x3072x6144 : Shape := ⟨3, ![4, 3072, 6144]⟩
abbrev S12288x4096 : Shape := ⟨2, ![12288, 4096]⟩
abbrev S12288x1 : Shape := ⟨2, ![12288, 1]⟩
abbrev S1x4096 : Shape := ⟨2, ![1, 4096]⟩
abbrev S1x6144 : Shape := ⟨2, ![1, 6144]⟩
abbrev S12288x6144 : Shape := ⟨2, ![12288, 6144]⟩
abbrev S12288 : Shape := ⟨1, ![12288]⟩

abbrev nBuf : Space → Nat
  | .hbm => 16
  | .vmem => 10
  | .smem => 0
  | _ => 0

abbrev bufTy : (tb : Table) → Fin (tcTables nBuf tb) → BufTy
  | .hbm, ⟨0, _⟩ => ⟨S4x3072x4096, .fp8e4m3⟩
  | .hbm, ⟨1, _⟩ => ⟨S4x3072, .f32⟩
  | .hbm, ⟨2, _⟩ => ⟨S4x3072, .f32⟩
  | .hbm, ⟨3, _⟩ => ⟨S4096, .f32⟩
  | .hbm, ⟨4, _⟩ => ⟨S4096x6144, .fp8e4m3⟩
  | .hbm, ⟨5, _⟩ => ⟨S6144, .f32⟩
  | .hbm, ⟨6, _⟩ => ⟨S4x3072x6144, .bf16⟩
  | .hbm, ⟨7, _⟩ => ⟨S12288x4096, .fp8e4m3⟩
  | .hbm, ⟨8, _⟩ => ⟨S12288x1, .f32⟩
  | .hbm, ⟨9, _⟩ => ⟨S12288x1, .f32⟩
  | .hbm, ⟨10, _⟩ => ⟨S1x4096, .f32⟩
  | .hbm, ⟨11, _⟩ => ⟨S1x6144, .f32⟩
  | .hbm, ⟨12, _⟩ => ⟨S12288x6144, .bf16⟩
  | .hbm, ⟨13, _⟩ => ⟨S4x3072x4096, .bf16⟩
  | .hbm, ⟨14, _⟩ => ⟨S4096x6144, .f32⟩
  | .hbm, ⟨15, _⟩ => ⟨S4096, .f32⟩
  | .local _ .vmem, ⟨0, _⟩ => ⟨S12288x4096, .fp8e4m3⟩
  | .local _ .vmem, ⟨1, _⟩ => ⟨S12288x1, .f32⟩
  | .local _ .vmem, ⟨2, _⟩ => ⟨S12288x1, .f32⟩
  | .local _ .vmem, ⟨3, _⟩ => ⟨S1x4096, .f32⟩
  | .local _ .vmem, ⟨4, _⟩ => ⟨S4096x6144, .fp8e4m3⟩
  | .local _ .vmem, ⟨5, _⟩ => ⟨S1x6144, .f32⟩
  | .local _ .vmem, ⟨6, _⟩ => ⟨S12288x6144, .bf16⟩
  | .local _ .vmem, ⟨7, _⟩ => ⟨S4x3072x4096, .bf16⟩
  | .local _ .vmem, ⟨8, _⟩ => ⟨S4096x6144, .f32⟩
  | .local _ .vmem, ⟨9, _⟩ => ⟨S4096, .f32⟩
  | _, _ => ⟨S4x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x3072x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Spec.lean ====
module

public import Idealize.ShloMosaic.Lib.Pointwise

@[expose] public section

noncomputable section

namespace Cert.Proof.Spec

open Idealize.ShloMosaic
open scoped BigOperators

/-! The mathematics both programs are compared with, over 12288 tokens, 4096 features and 6144 outputs: `cd` the activation
codes, `sx` and `rs` the tokens' scales and reciprocal deviations, `ga` the gain, `wc` and `ws` the weight's codes and scales,
`dq` the incoming gradient. -/

variable (cd : Fin 12288 → Fin 4096 → EReal) (sx rs : Fin 12288 → EReal) (ga : Fin 4096 → EReal) (wc : Fin 4096 → Fin 6144 → EReal)
  (ws : Fin 6144 → EReal) (dq : Fin 12288 → Fin 6144 → EReal)

/-- The normalised activation. -/
def nrm (t : Fin 12288) (d : Fin 4096) : EReal := cd t d * sx t * rs t
/-- The gradient of the scaled activation. -/
def dxh (t : Fin 12288) (d : Fin 4096) : EReal := ∑ k : Fin 6144, dq t k * (wc d k * ws k)
/-- The same, times the gain. -/
def gv (t : Fin 12288) (d : Fin 4096) : EReal := dxh wc ws dq t d * ga d
/-- The input's gradient. -/
def DX (t : Fin 12288) (d : Fin 4096) : EReal :=
  rs t * (gv ga wc ws dq t d - nrm cd sx rs t d * ((∑ e : Fin 4096, gv ga wc ws dq t e * nrm cd sx rs t e) * Ideal.ofBits .f32 0x39800000#32))
/-- The weight's gradient. -/
def DW (d : Fin 4096) (k : Fin 6144) : EReal := ∑ t : Fin 12288, nrm cd sx rs t d * ga d * dq t k
/-- The gain's gradient. -/
def DG (d : Fin 4096) : EReal := ∑ t : Fin 12288, dxh wc ws dq t d * nrm cd sx rs t d

/-- Dividing by 4096 is multiplying by its reciprocal, on all extended reals. -/
theorem div_4096 (x : EReal) : Ideal.div x (Ideal.ofBits .f32 0x45800000#32) = x * Ideal.ofBits .f32 0x39800000#32 := by
  have h1 : Ideal.ofBits .f32 0x45800000#32 = ((4096 : ℝ) : EReal) := by
    simp [Ideal.ofBits, Ideal.ieee, -EReal.coe_mul]; norm_num
  have h2 : Ideal.ofBits .f32 0x39800000#32 = ((1 / 4096 : ℝ) : EReal) := by
    simp [Ideal.ofBits, Ideal.ieee, -EReal.coe_mul]; norm_num
  rw [h1, h2, Ideal.div_coe (by norm_num)]

end Cert.Proof.Spec
-- ==== Proof.Tok.lean ====
module

public import proofs.«01_k».proof.Proof.Spec

@[expose] public section

noncomputable section

namespace Cert.Proof.Tok

/-! Batch and sequence as one axis of 12288 tokens: token `t` is position `t % 3072` of batch `t / 3072`. -/

/-- A per-token row read at a token. -/
def tok3 {n : ℕ} (a : Fin 4 → Fin 3072 → Fin n → EReal) (t : Fin 12288) (k : Fin n) : EReal :=
  a ⟨t.val / 3072, by omega⟩ ⟨t.val % 3072, by omega⟩ k
/-- A per-token scalar read at a token. -/
def tok2 (a : Fin 4 → Fin 3072 → EReal) (t : Fin 12288) : EReal :=
  a ⟨t.val / 3072, by omega⟩ ⟨t.val % 3072, by omega⟩

end Cert.Proof.Tok
-- ==== Proof.Pay.lean ====
module

public import proofs.«01_k».proof.Proof.Gen.KernelIdeal.Skeleton
public import Idealize.ShloMosaic.Lib.Pointwise

@[expose] public section

set_option maxRecDepth 16384

noncomputable section

namespace Cert.Proof.Pay

open Idealize.ShloMosaic
open Cert.KernelIdeal Cert.KernelIdeal.Gen
open scoped BigOperators

/-- 128 equal lanes set side by side four times. -/
theorem pay1_apply (v : FVec Ideal S256x128 .f32) (r : Fin 256) (j : Fin 512) :
    k0_pay1 (F := Ideal) v (ix2 r j) = v (ix2 r ⟨j.val % 128, Nat.mod_lt _ (by norm_num)⟩) := by
  have hj := j.isLt
  pointwise [k0_pay1]
  split_ifs <;> (congr 2; apply Fin.ext; dsimp only; omega)

/-- The second half of a tile taken from a row, the first from a block, both spread over the lanes. -/
theorem pay2_apply (v73 : FVec Ideal S128x128 .f32) (v85 : FVec Ideal S1x128 .f32) (r : Fin 256) (j : Fin 512) :
    k0_pay2 (F := Ideal) v73 v85 (ix2 r j) = if h : r.val < 128 then v73 (ix2 ⟨r.val, h⟩ ⟨j.val % 128, Nat.mod_lt _ (by norm_num)⟩)
      else v85 (ix2 0 ⟨r.val - 128, by omega⟩) := by
  have hj := j.isLt
  pointwise [k0_pay2]
  by_cases hr : r.val < 128
  · simp only [hr, dif_pos]
    split_ifs <;> (congr 2; apply Fin.ext; dsimp only; omega)
  · simp only [hr, dif_neg, not_false_eq_true]
    split_ifs <;> rfl

/-- The weight scale, cast. -/
theorem pay3_apply (v : Vec Ideal S1x6144 .f32) (j : S1x6144.Idx) : k0_pay3 (F := Ideal) v j = v j := by
  pointwise [k0_pay3]

/-- The running sum starts at zero. -/
theorem pay4_apply (j : S256x128.Idx) : k0_pay4 (F := Ideal) j = 0 := by
  pointwise [k0_pay4]

/-- The partial rows start at zero. -/
theorem pay17_apply (j : S8x4096.Idx) : k0_pay17 (F := Ideal) j = 0 := by
  pointwise [k0_pay17]

/-- A tile's gradient of the normalised, gained input: the output gradient times the scaled weight. -/
theorem pay7_apply (v93 : FVec Ideal S1x6144 .bf16) (W : Vec Ideal S512x6144 .fp8e4m3) (Q : Vec Ideal S256x6144 .bf16) (r : Fin 256) (j : Fin 512) :
    k0_pay7 (F := Ideal) v93 W Q (ix2 r j) = ∑ k : Fin 6144, Q (ix2 r k) * (W (ix2 j k) * v93 (ix2 0 k)) := by
  pointwise [k0_pay7]

/-- The normalised input. -/
theorem pay8_apply (A B : FVec Ideal S256x512 .f32) (C : Vec Ideal S256x512 .fp8e4m3) (j : S256x512.Idx) :
    k0_pay8 (F := Ideal) A B C j = C j * A j * B j := by
  pointwise [k0_pay8]

/-- The normalised input times the gain, transposed. -/
theorem pay10_apply (A B : FVec Ideal S256x512 .f32) (C : Vec Ideal S256x512 .fp8e4m3) (g : Vec Ideal S1x512 .f32) (j : Fin 512) (r : Fin 256) :
    k0_pay10 (F := Ideal) A B C g (ix2 j r) = C (ix2 r j) * A (ix2 r j) * B (ix2 r j) * g (ix2 0 j) := by
  pointwise [k0_pay10, k0_pay9, k0_pay8]

/-- The gradient times the gain. -/
theorem pay12_apply (v93 : FVec Ideal S1x6144 .bf16) (W : Vec Ideal S512x6144 .fp8e4m3) (Q : Vec Ideal S256x6144 .bf16) (g : Vec Ideal S1x512 .f32) (r : Fin 256) (j : Fin 512) :
    k0_pay12 (F := Ideal) v93 W Q g (ix2 r j) = (∑ k : Fin 6144, Q (ix2 r k) * (W (ix2 j k) * v93 (ix2 0 k))) * g (ix2 0 j) := by
  rw [← pay7_apply]
  pointwise [k0_pay12, k0_pay9]

/-- The same, as it is stored. -/
theorem pay13_eq (v93 : FVec Ideal S1x6144 .bf16) (W : Vec Ideal S512x6144 .fp8e4m3) (Q : Vec Ideal S256x6144 .bf16) (g : Vec Ideal S1x512 .f32) :
    k0_pay13 (F := Ideal) v93 W Q g = k0_pay12 (F := Ideal) v93 W Q g := by
  funext j
  pointwise [k0_pay13]

/-- The same times the normalised input. -/
theorem pay14_apply (A B : FVec Ideal S256x512 .f32) (v93 : FVec Ideal S1x6144 .bf16) (W : Vec Ideal S512x6144 .fp8e4m3) (Q : Vec Ideal S256x6144 .bf16)
    (C : Vec Ideal S256x512 .fp8e4m3) (g : Vec Ideal S1x512 .f32) (j : S256x512.Idx) :
    k0_pay14 (F := Ideal) A B v93 W Q C g j = k0_pay12 (F := Ideal) v93 W Q g j * k0_pay8 (F := Ideal) A B C j := rfl

/-- Partial row `s` gains the sum over the tokens that are `s` modulo eight. -/
theorem pay11_apply (A B : FVec Ideal S256x512 .f32) (v93 : FVec Ideal S1x6144 .bf16) (W : Vec Ideal S512x6144 .fp8e4m3) (Q : Vec Ideal S256x6144 .bf16)
    (C : Vec Ideal S256x512 .fp8e4m3) (old : Vec Ideal S8x512 .f32) (s : Fin 8) (j : Fin 512) :
    k0_pay11 (F := Ideal) A B v93 W Q C old (ix2 s j) = old (ix2 s j) + ∑ a : Fin 32, k0_pay7 (F := Ideal) v93 W Q (ix2 ⟨a.val * 8 + s.val, by omega⟩ j) * k0_pay8 (F := Ideal) A B C (ix2 ⟨a.val * 8 + s.val, by omega⟩ j) := by
  pointwise [k0_pay11]

/-- One lane step of the running dot. -/
theorem pay5_apply (G : FVec Ideal S256x512 .f32) (a b : FVec Ideal S256x128 .f32) (r : Fin 256) (l : Fin 128) :
    k0_pay5 (F := Ideal) G a b (ix2 r l) = a (ix2 r l) + b (ix2 r l) + G (ix2 r ⟨256 + l.val, by omega⟩) + G (ix2 r ⟨384 + l.val, by omega⟩) := by
  pointwise [k0_pay5]

/-- The first lanes added to the running sum. -/
theorem pay15_apply (A B : FVec Ideal S256x512 .f32) (v93 : FVec Ideal S1x6144 .bf16) (acc : FVec Ideal S256x128 .f32) (W : Vec Ideal S512x6144 .fp8e4m3) (Q : Vec Ideal S256x6144 .bf16)
    (C : Vec Ideal S256x512 .fp8e4m3) (g : Vec Ideal S1x512 .f32) (r : Fin 256) (l : Fin 128) :
    k0_pay15 (F := Ideal) A B v93 acc W Q C g (ix2 r l) = acc (ix2 r l) + k0_pay14 (F := Ideal) A B v93 W Q C g (ix2 r ⟨l.val, by omega⟩) := by
  pointwise [k0_pay15]

/-- The second lanes. -/
theorem pay16_apply (A B : FVec Ideal S256x512 .f32) (v93 : FVec Ideal S1x6144 .bf16) (W : Vec Ideal S512x6144 .fp8e4m3) (Q : Vec Ideal S256x6144 .bf16)
    (C : Vec Ideal S256x512 .fp8e4m3) (g : Vec Ideal S1x512 .f32) (r : Fin 256) (l : Fin 128) :
    k0_pay16 (F := Ideal) A B v93 W Q C g (ix2 r l) = k0_pay14 (F := Ideal) A B v93 W Q C g (ix2 r ⟨128 + l.val, by omega⟩) := by
  pointwise [k0_pay16]

/-- The input's gradient, with the mean taken from the running sum's lanes. -/
theorem pay6_apply (v59 : FVec Ideal S256x128 .f32) (v73 : FVec Ideal S128x128 .f32) (v85 : FVec Ideal S1x128 .f32) (v96 : FVec Ideal S256x128 .f32)
    (C : Vec Ideal S256x512 .fp8e4m3) (g : Vec Ideal S256x512 .f32) (r : Fin 256) (j : Fin 512) :
    k0_pay6 (F := Ideal) v59 v73 v85 v96 C g (ix2 r j)
      = k0_pay2 (F := Ideal) v73 v85 (ix2 r j) * (g (ix2 r j) - C (ix2 r j) * k0_pay1 (F := Ideal) v59 (ix2 r j) * k0_pay2 (F := Ideal) v73 v85 (ix2 r j)
          * ((∑ l : Fin 128, v96 (ix2 r l)) * Ideal.ofBits .f32 0x39800000#32)) := by
  pointwise [k0_pay6]

/-- Selecting one of four rows by its number and summing over the rows reads that row. -/
theorem sel_sum (w : BitVec 32) (b : Fin 4) (hw : w = BitVec.ofNat 32 b.val) (P : Fin 4 → EReal) :
    ∑ x : Fin 4, Scalar.select (IntOp.cmpi CmpIPredicate.eq (BitVec.ofNat 32 x.val) w) (P x) (0 : EReal) = P b := by
  subst hw
  rw [Fin.sum_univ_four]
  fin_cases b <;> simp [Scalar.select, IntOp.cmpi]

/-- A tile's column of one array's selected row. -/
theorem pay20_apply (w : BitVec 32) (b : Fin 4) (hw : w = BitVec.ofNat 32 b.val) (P Q : Vec Ideal S4x128 .f32) (m : IVec S4x128 1)
    (hm : ∀ (x : Fin 4) (l : Fin 128), m (ix2 x l) = IntOp.cmpi CmpIPredicate.eq (BitVec.ofNat 32 x.val) w) (r : Fin 256) (l : Fin 128) :
    k0_pay20 (F := Ideal) w P m (k0_pay19 (F := Ideal)) Q (ix2 r l)
      = if h : r.val < 128 then P (ix2 b ⟨r.val, h⟩) else Q (ix2 b ⟨r.val - 128, by omega⟩) := by
  pointwise [k0_pay20, k0_pay19]
  split
  · simp only [hm]
    exact sel_sum w b hw fun x => P (ix2 x _)
  · exact sel_sum w b hw fun x => Q (ix2 x _)

/-- The selected row's first half, down the rows. -/
theorem pay21_apply (w : BitVec 32) (b : Fin 4) (hw : w = BitVec.ofNat 32 b.val) (P : Vec Ideal S4x128 .f32) (r : Fin 128) (l : Fin 128) :
    k0_pay21 (F := Ideal) w P (ix2 r l) = P (ix2 b r) := by
  pointwise [k0_pay21]
  exact sel_sum w b hw fun x => P (ix2 x r)

/-- The selected row's second half. -/
theorem pay22_apply (w : BitVec 32) (b : Fin 4) (hw : w = BitVec.ofNat 32 b.val) (P : Vec Ideal S4x128 .f32) (l : Fin 128) :
    k0_pay22 (F := Ideal) w P (ix2 0 l) = P (ix2 b l) := by
  pointwise [k0_pay22]
  exact sel_sum w b hw fun x => P (ix2 x l)

end Cert.Proof.Pay
-- ==== Proof.Loop1.lean ====
module

public import proofs.«01_k».proof.Proof.Pay
public import Idealize.ShloMosaic.Lib.Pipeline.Kit
public import Idealize.ShloMosaic.Lib.Pipeline.Value

@[expose] public section

set_option maxRecDepth 16384

noncomputable section

namespace Cert.Proof.Loop1

open Idealize.ShloMosaic
open Cert.KernelIdeal Cert.KernelIdeal.Gen Cert.Proof.Pay
open scoped BigOperators

/-- A unit rectangle of a matrix places its own row `a` and column `b` at the offsets plus `a` and `b`. -/
theorem emb2 {M N p q : ℕ} {off : Fin 2 → ℕ} {o0 o1 : ℕ} (h : off = ![o0, o1]) (inb) (a : Fin p) (b : Fin q)
    (h0 : o0 + a.val < M) (h1 : o1 + b.val < N) :
    (Rect.unit (s := ⟨2, ![M, N]⟩) off ![p, q] inb).emb (ix2 a b) = ix2 ⟨o0 + a.val, h0⟩ ⟨o1 + b.val, h1⟩ := by
  subst h
  funext d
  apply Fin.ext
  show ![o0, o1] d + 1 * (ix2 a b d).val = _
  rw [Nat.one_mul]
  match d with
  | ⟨0, _⟩ => rfl
  | ⟨1, _⟩ => rfl

/-- A load of such a rectangle reads the matrix there. -/
theorem ld2 {M N p q : ℕ} {e : EltTy} (X : (⟨2, ![M, N]⟩ : Shape).Idx → Elt Ideal e) {off : Fin 2 → ℕ} {o0 o1 : ℕ} (h : off = ![o0, o1]) (inb)
    (a : Fin p) (b : Fin q) (h0 : o0 + a.val < M) (h1 : o1 + b.val < N) :
    View.ld (Val := Elt Ideal) X (Rect.unit (s := ⟨2, ![M, N]⟩) off ![p, q] inb) (ix2 a b) = X (ix2 ⟨o0 + a.val, h0⟩ ⟨o1 + b.val, h1⟩) :=
  congrArg X (emb2 h inb a b h0 h1)

/-- Membership in such a rectangle, coordinate by coordinate. -/
theorem mem2 {M N p q : ℕ} {off : Fin 2 → ℕ} {o0 o1 : ℕ} (h : off = ![o0, o1]) (inb) (a : Fin M) (b : Fin N) :
    (ix2 a b : (⟨2, ![M, N]⟩ : Shape).Idx) ∈ (Rect.unit (s := ⟨2, ![M, N]⟩) off ![p, q] inb).set
      ↔ (o0 ≤ a.val ∧ a.val < o0 + p) ∧ (o1 ≤ b.val ∧ b.val < o1 + q) := by
  subst h
  rw [Rect.mem_set_unit]
  exact Fin.forall_fin_two

/-! ## The tile's mathematics -/

section Spec
variable (sx rs : Fin 256 → EReal) (x2 : Vec Ideal S1x4096 .f32) (x3 : Vec Ideal S1x6144 .f32) (x4 : Vec Ideal S256x4096 .fp8e4m3)
  (x5 : Vec Ideal S4096x6144 .fp8e4m3) (x6 : Vec Ideal S256x6144 .bf16)

/-- The normalised activation of token `r` of the tile at feature `d`. -/
def nrm (r : Fin 256) (d : Fin 4096) : EReal := x4 (ix2 r d) * sx r * rs r
/-- The gradient reaching the scaled activation of token `r` at feature `d`. -/
def dxh (r : Fin 256) (d : Fin 4096) : EReal := ∑ k : Fin 6144, x6 (ix2 r k) * (x5 (ix2 d k) * x3 (ix2 0 k))
/-- That gradient times the gain. -/
def gv (r : Fin 256) (d : Fin 4096) : EReal := dxh x3 x5 x6 r d * x2 (ix2 0 d)
/-- The summand of the row's inner product, extended by zero. -/
def gnAt (r : Fin 256) (d : ℕ) : EReal := if h : d < 4096 then gv x2 x3 x5 x6 r ⟨d, h⟩ * nrm sx rs x4 r ⟨d, h⟩ else 0
/-- What the tile leaves in the transposed scaled activations. -/
def T9 (y : S4096x256.Idx) : EReal := nrm sx rs x4 (y 1) (y 0) * x2 (ix2 0 (y 0))
/-- What the tile leaves in the eight partial rows of the gain's gradient, over the old contents. -/
def T10 (old : S8x4096.Idx → EReal) (y : S8x4096.Idx) : EReal :=
  old y + ∑ a : Fin 32, dxh x3 x5 x6 ⟨a.val * 8 + (y 0).val, by have : (y 0).val < 8 := (y 0).isLt; omega⟩ (y 1) * nrm sx rs x4 ⟨a.val * 8 + (y 0).val, by have : (y 0).val < 8 := (y 0).isLt; omega⟩ (y 1)
/-- What the tile leaves in the scratch gradients. -/
def T11 (y : S256x4096.Idx) : EReal := gv x2 x3 x5 x6 (y 0) (y 1)
/-- What the tile leaves in the input gradient. -/
def T8 (y : S256x4096.Idx) : EReal :=
  rs (y 0) * (gv x2 x3 x5 x6 (y 0) (y 1) - nrm sx rs x4 (y 0) (y 1) * ((∑ d : Fin 4096, gv x2 x3 x5 x6 (y 0) d * nrm sx rs x4 (y 0) d) * Ideal.ofBits .f32 0x39800000#32))
end Spec

/-! ## One trip -/

section Trip
variable (A B : FVec Ideal S256x512 .f32) (ws : FVec Ideal S1x6144 .bf16) (x2 : Vec Ideal S1x4096 .f32) (x4 : Vec Ideal S256x4096 .fp8e4m3)
  (x5 : Vec Ideal S4096x6144 .fp8e4m3) (x6 : Vec Ideal S256x6144 .bf16) (k : Fin k0_t1_loop.trips)

abbrev Wk : Vec Ideal S512x6144 .fp8e4m3 := View.ld (Val := Elt Ideal) x5 (Rect.unit (s := S4096x6144) (k0_off2 k) ![512, 6144] (k0_off2_inb k))
abbrev Qk : Vec Ideal S256x6144 .bf16 := View.ld (Val := Elt Ideal) x6 (Rect.unit (s := S256x6144) ![0, 0] ![256, 6144] inb_S256x6144_S256x6144_0_0)
abbrev Ck : Vec Ideal S256x512 .fp8e4m3 := View.ld (Val := Elt Ideal) x4 (Rect.unit (s := S256x4096) (k0_off3 k) ![256, 512] (k0_off3_inb k))
abbrev gk : Vec Ideal S1x512 .f32 := View.ld (Val := Elt Ideal) x2 (Rect.unit (s := S1x4096) (k0_off4 k) ![1, 512] (k0_off4_inb k))
/-- The trip's carried value, -/
def Rk (acc : FVec Ideal S256x128 .f32) : FVec Ideal S256x128 .f32 :=
  k0_pay5 (F := Ideal) (k0_pay14 (F := Ideal) A B ws (Wk x5 k) (Qk x6) (Ck x4 k) (gk x2 k)) (k0_pay15 (F := Ideal) A B ws acc (Wk x5 k) (Qk x6) (Ck x4 k) (gk x2 k))
    (k0_pay16 (F := Ideal) A B ws (Wk x5 k) (Qk x6) (Ck x4 k) (gk x2 k))
/-- its store into the transposed scaled activations, -/
def P9 : View.Piece (Elt Ideal) S4096x256 .bf16 :=
  ⟨Rect.unit (s := S4096x256) (k0_off5 k) ![512, 256] (k0_off5_inb k), k0_pay10 (F := Ideal) A B (Ck x4 k) (gk x2 k)⟩
/-- its store into the gain's partial rows, over what it loads there, -/
def P10 (old : Vec Ideal S8x4096 .f32) : View.Piece (Elt Ideal) S8x4096 .f32 :=
  ⟨Rect.unit (s := S8x4096) (k0_off6 k) ![8, 512] (k0_off6_inb k), k0_pay11 (F := Ideal) A B ws (Wk x5 k) (Qk x6) (Ck x4 k)
    (View.ld (Val := Elt Ideal) old (Rect.unit (s := S8x4096) (k0_off6 k) ![8, 512] (k0_off6_inb k)))⟩
/-- and its store into the scratch gradients. -/
def P11 : View.Piece (Elt Ideal) S256x4096 .f32 :=
  ⟨Rect.unit (s := S256x4096) (k0_off3 k) ![256, 512] (k0_off3_inb k), k0_pay13 (F := Ideal) ws (Wk x5 k) (Qk x6) (gk x2 k)⟩
end Trip

section Values
variable (A B : FVec Ideal S256x512 .f32) (ws : FVec Ideal S1x6144 .bf16) (x2 : Vec Ideal S1x4096 .f32) (x3 : Vec Ideal S1x6144 .f32) (x4 : Vec Ideal S256x4096 .fp8e4m3)
  (x5 : Vec Ideal S4096x6144 .fp8e4m3) (x6 : Vec Ideal S256x6144 .bf16) (k : Fin k0_t1_loop.trips)
  (sx rs : Fin 256 → EReal) (hA : ∀ r j, A (ix2 r j) = sx r) (hB : ∀ r j, B (ix2 r j) = rs r) (hws : ∀ j, ws j = x3 j)

/-- There are eight trips. -/
theorem k_lt : k.val < 8 := Nat.lt_of_lt_of_le k.isLt k0_t1_abs.2.1

/-- The trip's 512 rows of the weight codes. -/
theorem Wk_apply (j : Fin 512) (m : Fin 6144) (h : 512 * k.val + j.val < 4096) : Wk x5 k (ix2 j m) = x5 (ix2 ⟨512 * k.val + j.val, h⟩ m) := by
  refine (ld2 x5 (k0_off2_eq k) _ j m h (by omega)).trans ?_
  congr 2; apply Fin.ext; simp
/-- The output gradient's tile, whole. -/
theorem Qk_apply (r : Fin 256) (m : Fin 6144) : Qk x6 (ix2 r m) = x6 (ix2 r m) := by
  refine (ld2 x6 rfl _ r m (by omega) (by omega)).trans ?_
  congr 2 <;> (apply Fin.ext; simp)
/-- The trip's 512 columns of the input codes. -/
theorem Ck_apply (r : Fin 256) (j : Fin 512) (h : 512 * k.val + j.val < 4096) : Ck x4 k (ix2 r j) = x4 (ix2 r ⟨512 * k.val + j.val, h⟩) := by
  refine (ld2 x4 (k0_off3_eq k) _ r j (by omega) h).trans ?_
  congr 2; apply Fin.ext; simp
/-- The trip's 512 columns of the gain. -/
theorem gk_apply (j : Fin 512) (h : 512 * k.val + j.val < 4096) : gk x2 k (ix2 0 j) = x2 (ix2 0 ⟨512 * k.val + j.val, h⟩) := by
  refine (ld2 x2 (k0_off4_eq k) _ 0 j (by simp) h).trans ?_
  congr 2

include hws in
/-- The trip's product is the gradient of the normalised, gained input at its columns. -/
theorem dxh_val (r : Fin 256) (j : Fin 512) (h : 512 * k.val + j.val < 4096) :
    k0_pay7 (F := Ideal) ws (Wk x5 k) (Qk x6) (ix2 r j) = dxh x3 x5 x6 r ⟨512 * k.val + j.val, h⟩ := by
  rw [pay7_apply]
  refine Finset.sum_congr rfl fun m _ => ?_
  rw [Qk_apply, Wk_apply x5 k j m h, hws]

include hA hB in
/-- The trip's normalised input. -/
theorem nrm_val (r : Fin 256) (j : Fin 512) (h : 512 * k.val + j.val < 4096) :
    k0_pay8 (F := Ideal) A B (Ck x4 k) (ix2 r j) = nrm sx rs x4 r ⟨512 * k.val + j.val, h⟩ := by
  rw [pay8_apply, Ck_apply x4 k r j h, hA, hB]; rfl

include hws in
/-- The trip's product times the gain. -/
theorem gv_val (r : Fin 256) (j : Fin 512) (h : 512 * k.val + j.val < 4096) :
    k0_pay12 (F := Ideal) ws (Wk x5 k) (Qk x6) (gk x2 k) (ix2 r j) = gv x2 x3 x5 x6 r ⟨512 * k.val + j.val, h⟩ := by
  rw [pay12_apply, ← pay7_apply, dxh_val ws x3 x5 x6 k hws r j h, gk_apply x2 k j h]; rfl

include hA hB hws in
/-- The trip's addend of the mean. -/
theorem gn_val (r : Fin 256) (d : ℕ) (hd : d < 512) :
    k0_pay14 (F := Ideal) A B ws (Wk x5 k) (Qk x6) (Ck x4 k) (gk x2 k) (ix2 r ⟨d, hd⟩) = gnAt sx rs x2 x3 x4 x5 x6 r (512 * k.val + d) := by
  have hk := k_lt k
  have h : 512 * k.val + d < 4096 := by omega
  rw [pay14_apply, gv_val ws x2 x3 x5 x6 k hws r ⟨d, hd⟩ h, nrm_val A B x4 k sx rs hA hB r ⟨d, hd⟩ h, gnAt, dif_pos h]

include hA hB hws in
/-- A trip adds its four lane blocks' terms to the carried value. -/
theorem Rk_apply (acc : FVec Ideal S256x128 .f32) (r : Fin 256) (l : Fin 128)
    (hacc : acc (ix2 r l) = ∑ m ∈ Finset.range (4 * k.val), gnAt sx rs x2 x3 x4 x5 x6 r (128 * m + l.val)) :
    Rk A B ws x2 x4 x5 x6 k acc (ix2 r l) = ∑ m ∈ Finset.range (4 * (k.val + 1)), gnAt sx rs x2 x3 x4 x5 x6 r (128 * m + l.val) := by
  rw [Rk, pay5_apply, pay15_apply, pay16_apply, gn_val A B ws x2 x3 x4 x5 x6 k sx rs hA hB hws, gn_val A B ws x2 x3 x4 x5 x6 k sx rs hA hB hws,
    gn_val A B ws x2 x3 x4 x5 x6 k sx rs hA hB hws, gn_val A B ws x2 x3 x4 x5 x6 k sx rs hA hB hws, hacc,
    show 4 * (k.val + 1) = 4 * k.val + 1 + 1 + 1 + 1 by ring, Finset.sum_range_succ, Finset.sum_range_succ, Finset.sum_range_succ, Finset.sum_range_succ]
  rw [show 512 * k.val + l.val = 128 * (4 * k.val) + l.val by ring, show 512 * k.val + (128 + l.val) = 128 * (4 * k.val + 1) + l.val by ring,
    show 512 * k.val + (256 + l.val) = 128 * (4 * k.val + 1 + 1) + l.val by ring,
    show 512 * k.val + (384 + l.val) = 128 * (4 * k.val + 1 + 1 + 1) + l.val by ring]

include hA hB in
/-- What a trip stores for the second call is the normalised input times the gain. -/
theorem P9_val (x : (P9 A B x2 x4 k).1.shape.Idx) : (P9 A B x2 x4 k).2 x = T9 sx rs x2 x4 ((P9 A B x2 x4 k).1.emb x) := by
  have hk := k_lt k
  obtain ⟨j, r, rfl⟩ : ∃ (j : Fin 512) (r : Fin 256), x = ix2 j r := ⟨x 0, x 1, eq_ix2 x⟩
  have h : 512 * k.val + j.val < 4096 := by omega
  refine Eq.trans ?_ (congrArg (T9 sx rs x2 x4) (emb2 (k0_off5_eq k) (k0_off5_inb k) j r h (by omega))).symm
  refine (pay10_apply A B (Ck x4 k) (gk x2 k) j r).trans ?_
  rw [Ck_apply x4 k r j h, gk_apply x2 k j h, hA, hB]
  simp [T9, nrm]

include hA hB hws in
/-- What a trip stores in the partial rows is what was there and the sum over every eighth token. -/
theorem P10_val (old : Vec Ideal S8x4096 .f32) (x : (P10 A B ws x4 x5 x6 k old).1.shape.Idx) :
    (P10 A B ws x4 x5 x6 k old).2 x = T10 sx rs x3 x4 x5 x6 old ((P10 A B ws x4 x5 x6 k old).1.emb x) := by
  have hk := k_lt k
  obtain ⟨s, j, rfl⟩ : ∃ (s : Fin 8) (j : Fin 512), x = ix2 s j := ⟨x 0, x 1, eq_ix2 x⟩
  have h : 512 * k.val + j.val < 4096 := by omega
  refine Eq.trans ?_ (congrArg (T10 sx rs x3 x4 x5 x6 old) (emb2 (k0_off6_eq k) (k0_off6_inb k) s j (by omega) h)).symm
  refine (pay11_apply A B ws (Wk x5 k) (Qk x6) (Ck x4 k) _ s j).trans ?_
  rw [ld2 old (k0_off6_eq k) (k0_off6_inb k) s j (by omega) h]
  unfold T10
  congr 1
  refine Finset.sum_congr rfl fun a _ => ?_
  rw [dxh_val ws x3 x5 x6 k hws _ j h, nrm_val A B x4 k sx rs hA hB _ j h]
  simp

include hws in
/-- What a trip stores in the scratch block is the product times the gain. -/
theorem P11_val (x : (P11 ws x2 x5 x6 k).1.shape.Idx) : (P11 ws x2 x5 x6 k).2 x = T11 x2 x3 x5 x6 ((P11 ws x2 x5 x6 k).1.emb x) := by
  have hk := k_lt k
  obtain ⟨r, j, rfl⟩ : ∃ (r : Fin 256) (j : Fin 512), x = ix2 r j := ⟨x 0, x 1, eq_ix2 x⟩
  have h : 512 * k.val + j.val < 4096 := by omega
  refine Eq.trans ?_ (congrArg (T11 x2 x3 x5 x6) (emb2 (k0_off3_eq k) (k0_off3_inb k) r j (by omega) h)).symm
  refine (congrFun (pay13_eq ws (Wk x5 k) (Qk x6) (gk x2 k)) (ix2 r j)).trans ?_
  rw [gv_val ws x2 x3 x5 x6 k hws r j h]
  simp [T11]

end Values

/-! ## The eight trips -/

section Inv
variable (A B : FVec Ideal S256x512 .f32) (ws : FVec Ideal S1x6144 .bf16) (x2 : Vec Ideal S1x4096 .f32) (x3 : Vec Ideal S1x6144 .f32) (x4 : Vec Ideal S256x4096 .fp8e4m3)
  (x5 : Vec Ideal S4096x6144 .fp8e4m3) (x6 : Vec Ideal S256x6144 .bf16)
  (sx rs : Fin 256 → EReal) (hA : ∀ r j, A (ix2 r j) = sx r) (hB : ∀ r j, B (ix2 r j) = rs r) (hws : ∀ j, ws j = x3 j)

/-- The carried value and the stores of the trips so far. -/
abbrev State := FVec Ideal S256x128 .f32 × List (View.Piece (Elt Ideal) S4096x256 .bf16) × List (View.Piece (Elt Ideal) S8x4096 .f32) × List (View.Piece (Elt Ideal) S256x4096 .f32)

/-- What holds before trip `k`: the carried value is the sum of the lane blocks so far; every store so far agrees with the tile's
    mathematics; the stores cover the columns below `512 k`, and those into the partial rows touch nothing beyond. -/
structure Inv (old : Vec Ideal S8x4096 .f32) (k : ℕ) (s : State) : Prop where
  acc : ∀ (r : Fin 256) (l : Fin 128), s.1 (ix2 r l) = ∑ m ∈ Finset.range (4 * k), gnAt sx rs x2 x3 x4 x5 x6 r (128 * m + l.val)
  p9 : ∀ p ∈ s.2.1, ∀ x : p.1.shape.Idx, p.2 x = T9 sx rs x2 x4 (p.1.emb x)
  c9 : ∀ (d : Fin 4096) (r : Fin 256), d.val < 512 * k → ∃ p ∈ s.2.1, (ix2 d r : S4096x256.Idx) ∈ p.1.set
  p10 : ∀ p ∈ s.2.2.1, ∀ x : p.1.shape.Idx, p.2 x = T10 sx rs x3 x4 x5 x6 old (p.1.emb x)
  c10 : ∀ (r : Fin 8) (d : Fin 4096), d.val < 512 * k → ∃ p ∈ s.2.2.1, (ix2 r d : S8x4096.Idx) ∈ p.1.set
  f10 : ∀ (r : Fin 8) (d : Fin 4096), 512 * k ≤ d.val → ∀ p ∈ s.2.2.1, (ix2 r d : S8x4096.Idx) ∉ p.1.set
  p11 : ∀ p ∈ s.2.2.2, ∀ x : p.1.shape.Idx, p.2 x = T11 x2 x3 x5 x6 (p.1.emb x)
  c11 : ∀ (r : Fin 256) (d : Fin 4096), d.val < 512 * k → ∃ p ∈ s.2.2.2, (ix2 r d : S256x4096.Idx) ∈ p.1.set

/-- A trip's store into the partial rows depends on the old contents only in its own columns. -/
theorem P10_congr (k : Fin k0_t1_loop.trips) (old old' : Vec Ideal S8x4096 .f32)
    (h : ∀ (r : Fin 8) (d : Fin 4096), 512 * k.val ≤ d.val → old (ix2 r d) = old' (ix2 r d)) :
    P10 A B ws x4 x5 x6 k old = P10 A B ws x4 x5 x6 k old' := by
  have hk := k_lt k
  unfold P10
  congr 2
  funext x
  obtain ⟨s, j, rfl⟩ : ∃ (s : Fin 8) (j : Fin 512), x = ix2 s j := ⟨x 0, x 1, eq_ix2 x⟩
  have hb : 512 * k.val + j.val < 4096 := by omega
  exact (ld2 old (k0_off6_eq k) (k0_off6_inb k) s j (by omega) hb).trans
    ((h _ _ (by simp)).trans (ld2 old' (k0_off6_eq k) (k0_off6_inb k) s j (by omega) hb).symm)

/-- The invariant at the start. -/
theorem inv_zero (old : Vec Ideal S8x4096 .f32) : Inv x2 x3 x4 x5 x6 sx rs old 0 (k0_pay4 (F := Ideal), [], [], []) where
  acc r l := (pay4_apply (ix2 r l)).trans (by simp)
  p9 p hp := absurd hp List.not_mem_nil
  c9 d r h := by omega
  p10 p hp := absurd hp List.not_mem_nil
  c10 d r h := by omega
  f10 d r h p hp := absurd hp List.not_mem_nil
  p11 p hp := absurd hp List.not_mem_nil
  c11 d r h := by omega

include hA hB hws in
/-- One trip keeps the invariant. -/
theorem inv_succ {κ : Kind} {sp : Space} {sg : RefSig} (v : View sg κ sp S8x4096 .f32) (G : v.ty.Contents (Elt Ideal))
    (k : Fin k0_t1_loop.trips) (s : State) (h : Inv x2 x3 x4 x5 x6 sx rs (v.read (Elt Ideal) G) k.val s) :
    Inv x2 x3 x4 x5 x6 sx rs (v.read (Elt Ideal) G) (k.val + 1)
      (Rk A B ws x2 x4 x5 x6 k s.1, [P9 A B x2 x4 k] ++ s.2.1, [P10 A B ws x4 x5 x6 k (v.read (Elt Ideal) (v.writes (Elt Ideal) G s.2.2.1))] ++ s.2.2.1,
        [P11 ws x2 x5 x6 k] ++ s.2.2.2) := by
  have hk := k_lt k
  have e10 : P10 A B ws x4 x5 x6 k (v.read (Elt Ideal) (v.writes (Elt Ideal) G s.2.2.1)) = P10 A B ws x4 x5 x6 k (v.read (Elt Ideal) G) :=
    P10_congr A B ws x4 x5 x6 k _ _ fun r d hd => View.read_writes_apply_of_forall_not_mem v G _ _ (h.f10 r d hd)
  rw [e10]
  refine ⟨fun r l => Rk_apply A B ws x2 x3 x4 x5 x6 k sx rs hA hB hws s.1 r l (h.acc r l), ?_, ?_, ?_, ?_, ?_, ?_, ?_⟩
  · intro p hp
    rcases List.mem_cons.mp hp with rfl | hp
    · exact P9_val A B x2 x4 k sx rs hA hB
    · exact h.p9 p hp
  · intro d r hd
    by_cases hlt : d.val < 512 * k.val
    · obtain ⟨p, hp, hy⟩ := h.c9 d r hlt
      exact ⟨p, List.mem_cons_of_mem _ hp, hy⟩
    · exact ⟨_, List.mem_cons_self, (mem2 (k0_off5_eq k) (k0_off5_inb k) d r).mpr ⟨⟨by omega, by omega⟩, by omega, by omega⟩⟩
  · intro p hp
    rcases List.mem_cons.mp hp with rfl | hp
    · exact P10_val A B ws x3 x4 x5 x6 k sx rs hA hB hws _
    · exact h.p10 p hp
  · intro r d hd
    by_cases hlt : d.val < 512 * k.val
    · obtain ⟨p, hp, hy⟩ := h.c10 r d hlt
      exact ⟨p, List.mem_cons_of_mem _ hp, hy⟩
    · exact ⟨_, List.mem_cons_self, (mem2 (k0_off6_eq k) (k0_off6_inb k) r d).mpr ⟨⟨by omega, by omega⟩, by omega, by omega⟩⟩
  · intro r d hd p hp
    rcases List.mem_cons.mp hp with rfl | hp
    · intro hm
      have := ((mem2 (k0_off6_eq k) (k0_off6_inb k) r d).mp hm).2
      omega
    · exact h.f10 r d (by omega) p hp
  · intro p hp
    rcases List.mem_cons.mp hp with rfl | hp
    · exact P11_val ws x2 x3 x5 x6 k hws
    · exact h.p11 p hp
  · intro r d hd
    by_cases hlt : d.val < 512 * k.val
    · obtain ⟨p, hp, hy⟩ := h.c11 r d hlt
      exact ⟨p, List.mem_cons_of_mem _ hp, hy⟩
    · exact ⟨_, List.mem_cons_self, (mem2 (k0_off3_eq k) (k0_off3_inb k) r d).mpr ⟨⟨by omega, by omega⟩, by omega, by omega⟩⟩

include hA hB hws in
/-- A recursion that starts empty and takes one trip at a time keeps the invariant throughout. -/
theorem inv_all {κ : Kind} {sp : Space} {sg : RefSig} (v : View sg κ sp S8x4096 .f32) (G : v.ty.Contents (Elt Ideal)) (S : ℕ → State)
    (h0 : S 0 = (k0_pay4 (F := Ideal), [], [], []))
    (hs : ∀ k : Fin k0_t1_loop.trips, S (k.val + 1)
      = (Rk A B ws x2 x4 x5 x6 k (S k.val).1, [P9 A B x2 x4 k] ++ (S k.val).2.1, [P10 A B ws x4 x5 x6 k (v.read (Elt Ideal) (v.writes (Elt Ideal) G (S k.val).2.2.1))] ++ (S k.val).2.2.1,
        [P11 ws x2 x5 x6 k] ++ (S k.val).2.2.2)) :
    ∀ k : ℕ, k ≤ k0_t1_loop.trips → Inv x2 x3 x4 x5 x6 sx rs (v.read (Elt Ideal) G) k (S k)
  | 0, _ => h0 ▸ inv_zero x2 x3 x4 x5 x6 sx rs _
  | k + 1, hk => by
    have h := inv_all v G S h0 hs k (by omega)
    have := hs ⟨k, hk⟩
    rw [this]
    exact inv_succ A B ws x2 x3 x4 x5 x6 sx rs hA hB hws v G ⟨k, hk⟩ (S k) h

/-- The lanes' sums, summed over the lanes, are the whole row's sum. -/
theorem lanes_sum (f : ℕ → EReal) : ∑ l : Fin 128, ∑ m ∈ Finset.range 32, f (128 * m + l.val) = ∑ d : Fin 4096, f d.val := by
  rw [Finset.sum_comm, Finset.sum_range fun m => ∑ l : Fin 128, f (128 * m + l.val), ← Fintype.sum_prod_type' (f := fun (m : Fin 32) (l : Fin 128) => f (128 * m.val + l.val))]
  refine Fintype.sum_equiv (finProdFinEquiv (m := 32) (n := 128)) _ (fun d => f d.val) fun p => ?_
  congr 1
  simp [finProdFinEquiv]
  omega
end Inv

end Cert.Proof.Loop1
-- ==== Proof.Trip.lean ====
module

public import proofs.«01_k».proof.Proof.Loop1
public import proofs.«01_k».proof.Proof.Gen.KernelIdeal.Loops

@[expose] public section

set_option maxRecDepth 16384

noncomputable section

namespace Cert.Proof.Trip

open Idealize.ShloMosaic Idealize.ShloMosaic.TcCoe
open Cert.KernelIdeal Cert.KernelIdeal.Gen Cert.Proof.Pay Cert.Proof.Loop1
open scoped BigOperators

variable (𝒱 : Variants) (c : Dev nD) (bd : Option 𝒱.V) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole)
  (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole)
  (v59 : FVec Ideal S256x128 .f32) (v73 : FVec Ideal S128x128 .f32) (v85 : FVec Ideal S1x128 .f32)

section First
variable (v91 : Vec Ideal S1x6144 .f32) (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty)
  (f_arg9 G_arg9 : BufTy.Contents (Elt Ideal) arg9.view.ty) (f_arg10 G_arg10 : BufTy.Contents (Elt Ideal) arg10.view.ty) (f_arg11 G_arg11 : BufTy.Contents (Elt Ideal) arg11.view.ty)
  (k : Fin k0_t1_loop.trips) (acc : FVec Ideal S256x128 .f32)

/-- A trip of the first loop as the executed body gives it: the running sum, -/
theorem t1R : (trip_k0_t1 (F := Ideal) 𝒱 c bd i arg1 harg1 arg2 harg2 arg3 harg3 arg4 harg4 arg5 harg5 arg6 harg6 arg7 harg7 arg8 harg8 arg9 harg9 arg10 harg10 arg11 harg11 v59 v73 v85 v91 X_arg3 X_arg5 X_arg6 X_arg7 k).1 acc f_arg9 f_arg10 f_arg11
    = Rk (k0_pay1 (F := Ideal) v59) (k0_pay2 (F := Ideal) v73 v85) (k0_pay3 (F := Ideal) v91) (arg3.view.read (Elt Ideal) X_arg3) (arg5.view.read (Elt Ideal) X_arg5) (arg6.view.read (Elt Ideal) X_arg6) (arg7.view.read (Elt Ideal) X_arg7) k acc := by
  unfold trip_k0_t1
  dsimp only
  rfl
/-- the block for the second call, -/
theorem t1L9 : (trip_k0_t1 (F := Ideal) 𝒱 c bd i arg1 harg1 arg2 harg2 arg3 harg3 arg4 harg4 arg5 harg5 arg6 harg6 arg7 harg7 arg8 harg8 arg9 harg9 arg10 harg10 arg11 harg11 v59 v73 v85 v91 X_arg3 X_arg5 X_arg6 X_arg7 k).2.1 acc f_arg9 f_arg10 f_arg11
    = [P9 (k0_pay1 (F := Ideal) v59) (k0_pay2 (F := Ideal) v73 v85) (arg3.view.read (Elt Ideal) X_arg3) (arg5.view.read (Elt Ideal) X_arg5) k] := by
  unfold trip_k0_t1
  dsimp only
  rfl
/-- the partial rows -/
theorem t1L10 : (trip_k0_t1 (F := Ideal) 𝒱 c bd i arg1 harg1 arg2 harg2 arg3 harg3 arg4 harg4 arg5 harg5 arg6 harg6 arg7 harg7 arg8 harg8 arg9 harg9 arg10 harg10 arg11 harg11 v59 v73 v85 v91 X_arg3 X_arg5 X_arg6 X_arg7 k).2.2.1 acc f_arg9 f_arg10 f_arg11
    = [P10 (k0_pay1 (F := Ideal) v59) (k0_pay2 (F := Ideal) v73 v85) (k0_pay3 (F := Ideal) v91) (arg5.view.read (Elt Ideal) X_arg5) (arg6.view.read (Elt Ideal) X_arg6) (arg7.view.read (Elt Ideal) X_arg7) k (arg10.view.read (Elt Ideal) f_arg10)] := by
  unfold trip_k0_t1
  dsimp only
  rfl
/-- and the scratch block. -/
theorem t1L11 : (trip_k0_t1 (F := Ideal) 𝒱 c bd i arg1 harg1 arg2 harg2 arg3 harg3 arg4 harg4 arg5 harg5 arg6 harg6 arg7 harg7 arg8 harg8 arg9 harg9 arg10 harg10 arg11 harg11 v59 v73 v85 v91 X_arg3 X_arg5 X_arg6 X_arg7 k).2.2.2.1 acc f_arg9 f_arg10 f_arg11
    = [P11 (k0_pay3 (F := Ideal) v91) (arg3.view.read (Elt Ideal) X_arg3) (arg6.view.read (Elt Ideal) X_arg6) (arg7.view.read (Elt Ideal) X_arg7) k] := by
  unfold trip_k0_t1
  dsimp only
  rfl

/-- The state the trips build, at a carried value of zero, keeps the invariant: `sx`, `rs` the tile's column scalars. -/
theorem st_inv (sx rs : Fin 256 → EReal) (hA : ∀ r j, k0_pay1 (F := Ideal) v59 (ix2 r j) = sx r) (hB : ∀ r j, k0_pay2 (F := Ideal) v73 v85 (ix2 r j) = rs r) :
    Inv (arg3.view.read (Elt Ideal) X_arg3) v91 (arg5.view.read (Elt Ideal) X_arg5) (arg6.view.read (Elt Ideal) X_arg6) (arg7.view.read (Elt Ideal) X_arg7) sx rs
      (arg10.view.read (Elt Ideal) G_arg10) k0_t1_loop.trips
      (st_k0_t1 (F := Ideal) 𝒱 c bd i arg1 harg1 arg2 harg2 arg3 harg3 arg4 harg4 arg5 harg5 arg6 harg6 arg7 harg7 arg8 harg8 arg9 harg9 arg10 harg10 arg11 harg11 v59 v73 v85 v91 X_arg3 X_arg5 X_arg6 X_arg7 G_arg9 G_arg10 G_arg11 (k0_pay4 (F := Ideal)) k0_t1_loop.trips) := by
  refine inv_all (k0_pay1 (F := Ideal) v59) (k0_pay2 (F := Ideal) v73 v85) (k0_pay3 (F := Ideal) v91) (arg3.view.read (Elt Ideal) X_arg3) v91 (arg5.view.read (Elt Ideal) X_arg5)
    (arg6.view.read (Elt Ideal) X_arg6) (arg7.view.read (Elt Ideal) X_arg7) sx rs hA hB (fun j => pay3_apply v91 j) arg10.view G_arg10
    (fun k => st_k0_t1 (F := Ideal) 𝒱 c bd i arg1 harg1 arg2 harg2 arg3 harg3 arg4 harg4 arg5 harg5 arg6 harg6 arg7 harg7 arg8 harg8 arg9 harg9 arg10 harg10 arg11 harg11 v59 v73 v85 v91 X_arg3 X_arg5 X_arg6 X_arg7 G_arg9 G_arg10 G_arg11 (k0_pay4 (F := Ideal)) k)
    (by rw [st_k0_t1.eq_1]) (fun k => ?_) k0_t1_loop.trips le_rfl
  rw [st_k0_t1_succ]
  dsimp only [tripR_k0_t1, tripL_k0_t1]
  rw [t1R, t1L9, t1L10, t1L11]

end First

section Second
variable (v96 : FVec Ideal S256x128 .f32) (X_arg5 : BufTy.Contents (Elt Ideal) arg5.view.ty) (X_arg11 : BufTy.Contents (Elt Ideal) arg11.view.ty) (k : Fin k0_t2_loop.trips)
/-- The second loop's store of trip `k`. -/
def P8 (x4 : Vec Ideal S256x4096 .fp8e4m3) (g : Vec Ideal S256x4096 .f32) : View.Piece (Elt Ideal) S256x4096 .bf16 :=
  ⟨Rect.unit (s := S256x4096) (k0_off7 k) ![256, 512] (k0_off7_inb k), k0_pay6 (F := Ideal) v59 v73 v85 v96
    (View.ld (Val := Elt Ideal) x4 (Rect.unit (s := S256x4096) (k0_off7 k) ![256, 512] (k0_off7_inb k)))
    (View.ld (Val := Elt Ideal) g (Rect.unit (s := S256x4096) (k0_off7 k) ![256, 512] (k0_off7_inb k)))⟩

/-- A trip of the second loop stores one block of the input's gradient. -/
theorem t2L8 : (trip_k0_t2 (F := Ideal) 𝒱 c bd i arg1 harg1 arg2 harg2 arg3 harg3 arg4 harg4 arg5 harg5 arg6 harg6 arg7 harg7 arg8 harg8 arg9 harg9 arg10 harg10 arg11 harg11 v59 v73 v85 v96 X_arg5 X_arg11 k).1
    = [P8 v59 v73 v85 v96 k (arg5.view.read (Elt Ideal) X_arg5) (arg11.view.read (Elt Ideal) X_arg11)] := by
  unfold trip_k0_t2
  dsimp only
  rfl

/-- There are eight trips. -/
theorem k2_lt : k.val < 8 := Nat.lt_of_lt_of_le k.isLt k0_t2_abs.2.1

/-- It agrees with the tile's mathematics. -/
theorem P8_val (x2 : Vec Ideal S1x4096 .f32) (x3 : Vec Ideal S1x6144 .f32) (x4 : Vec Ideal S256x4096 .fp8e4m3)
    (x5 : Vec Ideal S4096x6144 .fp8e4m3) (x6 : Vec Ideal S256x6144 .bf16) (g : Vec Ideal S256x4096 .f32)
    (sx rs : Fin 256 → EReal) (hA : ∀ r j, k0_pay1 (F := Ideal) v59 (ix2 r j) = sx r) (hB : ∀ r j, k0_pay2 (F := Ideal) v73 v85 (ix2 r j) = rs r)
    (hg : ∀ r d, g (ix2 r d) = gv x2 x3 x5 x6 r d)
    (hacc : ∀ r, ∑ l : Fin 128, v96 (ix2 r l) = ∑ d : Fin 4096, gv x2 x3 x5 x6 r d * nrm sx rs x4 r d)
    (x : (P8 v59 v73 v85 v96 k x4 g).1.shape.Idx) :
    (P8 v59 v73 v85 v96 k x4 g).2 x = T8 sx rs x2 x3 x4 x5 x6 ((P8 v59 v73 v85 v96 k x4 g).1.emb x) := by
  have hk := k2_lt k
  obtain ⟨r, j, rfl⟩ : ∃ (r : Fin 256) (j : Fin 512), x = ix2 r j := ⟨x 0, x 1, eq_ix2 x⟩
  have h : 512 * k.val + j.val < 4096 := by omega
  refine Eq.trans ?_ (congrArg (T8 sx rs x2 x3 x4 x5 x6) (emb2 (k0_off7_eq k) (k0_off7_inb k) r j (by omega) h)).symm
  refine (pay6_apply v59 v73 v85 v96 _ _ r j).trans ?_
  rw [ld2 x4 (k0_off7_eq k) (k0_off7_inb k) r j (by omega) h, ld2 g (k0_off7_eq k) (k0_off7_inb k) r j (by omega) h, hA, hB, hg, hacc]
  simp [T8, nrm]

/-- All the second loop's stores agree with it and cover the tile. -/
theorem pb_inv (x2 : Vec Ideal S1x4096 .f32) (x3 : Vec Ideal S1x6144 .f32)
    (x5 : Vec Ideal S4096x6144 .fp8e4m3) (x6 : Vec Ideal S256x6144 .bf16)
    (sx rs : Fin 256 → EReal) (hA : ∀ r j, k0_pay1 (F := Ideal) v59 (ix2 r j) = sx r) (hB : ∀ r j, k0_pay2 (F := Ideal) v73 v85 (ix2 r j) = rs r)
    (hg : ∀ r d, arg11.view.read (Elt Ideal) X_arg11 (ix2 r d) = gv x2 x3 x5 x6 r d)
    (hacc : ∀ r, ∑ l : Fin 128, v96 (ix2 r l) = ∑ d : Fin 4096, gv x2 x3 x5 x6 r d * nrm sx rs (arg5.view.read (Elt Ideal) X_arg5) r d) :
    ∀ k : ℕ, k ≤ k0_t2_loop.trips →
      (∀ p ∈ pb_k0_t2 (F := Ideal) 𝒱 c bd i arg1 harg1 arg2 harg2 arg3 harg3 arg4 harg4 arg5 harg5 arg6 harg6 arg7 harg7 arg8 harg8 arg9 harg9 arg10 harg10 arg11 harg11 v59 v73 v85 v96 X_arg5 X_arg11 k, ∀ x : p.1.shape.Idx, p.2 x = T8 sx rs x2 x3 (arg5.view.read (Elt Ideal) X_arg5) x5 x6 (p.1.emb x))
      ∧ ∀ (r : Fin 256) (d : Fin 4096), d.val < 512 * k →
        ∃ p ∈ pb_k0_t2 (F := Ideal) 𝒱 c bd i arg1 harg1 arg2 harg2 arg3 harg3 arg4 harg4 arg5 harg5 arg6 harg6 arg7 harg7 arg8 harg8 arg9 harg9 arg10 harg10 arg11 harg11 v59 v73 v85 v96 X_arg5 X_arg11 k, (ix2 r d : S256x4096.Idx) ∈ p.1.set
  | 0, _ => by
    rw [pb_k0_t2.eq_1]
    exact ⟨fun p hp => absurd hp List.not_mem_nil, fun r d h => by omega⟩
  | k + 1, hk => by
    have ih := pb_inv x2 x3 x5 x6 sx rs hA hB hg hacc k (by omega)
    have e := pb_k0_t2_succ (F := Ideal) 𝒱 c bd i arg1 harg1 arg2 harg2 arg3 harg3 arg4 harg4 arg5 harg5 arg6 harg6 arg7 harg7 arg8 harg8 arg9 harg9 arg10 harg10 arg11 harg11 v59 v73 v85 v96 X_arg5 X_arg11 ⟨k, hk⟩
    dsimp only [tripL_k0_t2] at e
    rw [t2L8] at e
    rw [e]
    refine ⟨fun p hp => ?_, fun r d hd => ?_⟩
    · rcases List.mem_cons.mp hp with rfl | hp
      · exact P8_val v59 v73 v85 v96 ⟨k, hk⟩ x2 x3 _ x5 x6 _ sx rs hA hB hg hacc
      · exact ih.1 p hp
    · by_cases hlt : d.val < 512 * k
      · obtain ⟨p, hp, hy⟩ := ih.2 r d hlt
        exact ⟨p, List.mem_cons_of_mem _ hp, hy⟩
      · refine ⟨_, List.mem_cons_self, (mem2 (k0_off7_eq ⟨k, hk⟩) (k0_off7_inb ⟨k, hk⟩) r d).mpr ⟨⟨by omega, by omega⟩, ?_, ?_⟩⟩
        · dsimp only; omega
        · dsimp only; omega
end Second

end Cert.Proof.Trip
-- ==== Proof.KIBase.lean ====
/-
   THE FIRST CALL of the kernel: its windows' blocks, the branch condition and the staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dx` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`) — `Dat.before_in_eq_fetched`
    (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`) — `Dat.before_in_eq_fetched`
    (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`) — `Dat.before_in_eq_fetched`
    (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`) — `Dat.before_in_eq_fetched`
    (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`) — `Dat.before_in_eq_fetched`
    (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`) — `Dat.before_in_eq_fetched`
    (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`) — `Dat.before_in_eq_fetched`
    (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-! ## The kernel body on any staging memrefs: a subtype the run finds -/

/-- One staging buffer of output window 7, through which its contents are stated (`View.read_writes_of_cover`: the
    choice does not matter). -/
abbrev VO0_7 : View sig .tc .vmem S256x4096 .bf16 := (Memref.whole cc0_stg7_0 : Memref sig .tc .vmem S256x4096 .bf16).view
/-- One staging buffer of output window 8, through which its contents are stated (`View.read_writes_of_cover`: the
    choice does not matter). -/
abbrev VO0_8 : View sig .tc .vmem S4096x256 .bf16 := (Memref.whole cc0_stg8_0 : Memref sig .tc .vmem S4096x256 .bf16).view
/-- One staging buffer of output window 9, through which its contents are stated (`View.read_writes_of_cover`: the
    choice does not matter). -/
abbrev VO0_9 : View sig .tc .vmem S8x4096 .f32 := (Memref.whole cc0_stg9_0 : Memref sig .tc .vmem S8x4096 .f32).view
/-- Each window's current staging memref at point `t`, spelled as the pipeline passes it (`bodyAt0`), and its wholeness. -/
abbrev ms0_0 (t : Fin cfg0.N) : Memref sig .tc .vmem S4x3072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x6144 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x6144 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x4096 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x4096 .f32 := Memref.whole cc0_scratch0

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Regions

end Cert.Proof.KI

end
-- ==== Proof.KILoop.lean ====
/-
   THE LOOPS of the kernel's first call: what they store does not depend on what the written buffers held before. -/
module

public import proofs.«01_k».proof.Proof.KIBase

@[expose] public section

set_option maxRecDepth 16384

noncomputable section

namespace Cert.Proof.KI

open Cert.KernelIdeal Cert.KernelIdeal.Gen
open Idealize.ShloMosaic Idealize.ShloMosaic.TcCoe Idealize.ShloMosaic.Tactic

variable {F : FTy → Type} [FloatOps F]

section Indep
variable (𝒱 : Variants) (c : Dev nD) (bd : Option 𝒱.V) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole)
  (v59 : FVec F S256x128 .f32) (v73 : FVec F S128x128 .f32) (v85 : FVec F S1x128 .f32)

section First
variable (v91 : Vec F S1x6144 .f32) (X3 : BufTy.Contents (Elt F) arg3.view.ty) (X5 : BufTy.Contents (Elt F) arg5.view.ty) (X6 : BufTy.Contents (Elt F) arg6.view.ty) (X7 : BufTy.Contents (Elt F) arg7.view.ty)
  (G9 G9' : BufTy.Contents (Elt F) arg9.view.ty) (G10 G10' : BufTy.Contents (Elt F) arg10.view.ty) (G11 G11' : BufTy.Contents (Elt F) arg11.view.ty)

/-- A trip's carried result does not depend on what the written buffers hold. -/
theorem trip_R (k : Fin k0_t1_loop.trips) (acc : FVec F S256x128 .f32) :
    (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).1 acc G9 G10 G11 = (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).1 acc G9' G10' G11' := by
  unfold trip_k0_t1
  dsimp only

/-- A trip's stores into the transposed block do not depend on what the written buffers hold. -/
theorem trip_L9 (k : Fin k0_t1_loop.trips) (acc : FVec F S256x128 .f32) :
    (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).2.1 acc G9 G10 G11 = (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).2.1 acc G9' G10' G11' := by
  unfold trip_k0_t1
  dsimp only

/-- A trip's stores into the scratch block do not depend on what the written buffers hold. -/
theorem trip_L11 (k : Fin k0_t1_loop.trips) (acc : FVec F S256x128 .f32) :
    (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).2.2.2.1 acc G9 G10 G11 = (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).2.2.2.1 acc G9' G10' G11' := by
  unfold trip_k0_t1
  dsimp only

/-- A trip's stores into the accumulator depend on the accumulator's contents alone. -/
theorem trip_L10 (k : Fin k0_t1_loop.trips) (acc : FVec F S256x128 .f32) :
    (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).2.2.1 acc G9 G10 G11 = (trip_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 k).2.2.1 acc G9' G10 G11' := by
  unfold trip_k0_t1
  dsimp only

/-- So the state the trips build depends on the accumulator's contents at entry alone. -/
theorem st_congr (init : FVec F S256x128 .f32) : ∀ k : ℕ, k ≤ k0_t1_loop.trips →
    st_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 G9 G10 G11 init k
      = st_k0_t1 (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 G9' G10 G11' init k
  | 0, _ => by rw [st_k0_t1.eq_1, st_k0_t1.eq_1]
  | k + 1, hk => by
    have ih := st_congr init k (Nat.le_of_succ_le hk)
    have e := st_k0_t1_succ (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 G9 G10 G11 init ⟨k, hk⟩
    have e' := st_k0_t1_succ (F := F) 𝒱 c bd i arg1 harg1 arg2 harg2 arg3 harg3 arg4 harg4 arg5 harg5 arg6 harg6 arg7 harg7 arg8 harg8 arg9 harg9 arg10 harg10 arg11 harg11 v59 v73 v85 v91 X3 X5 X6 X7 G9' G10 G11' init ⟨k, hk⟩
    dsimp only [tripR_k0_t1, tripL_k0_t1] at e e'
    refine e.trans (Eq.trans ?_ e'.symm)
    rw [ih]
    refine congr (congrArg Prod.mk ?_) (congr (congrArg Prod.mk ?_) (congr (congrArg Prod.mk ?_) ?_))
    · exact trip_R ..
    · exact congrArg (· ++ _) (trip_L9 ..)
    · exact congrArg (· ++ _) (trip_L10 ..)
    · exact congrArg (· ++ _) (trip_L11 ..)
end First

section Second
variable (v96 : FVec F S256x128 .f32) (X5 : BufTy.Contents (Elt F) arg5.view.ty) (X11 X11' : BufTy.Contents (Elt F) arg11.view.ty)

/-- A trip of the second loop reads the scratch block only through its contents. -/
theorem trip2_L8 (h : arg11.view.read (Elt F) X11 = arg11.view.read (Elt F) X11') (k : Fin k0_t2_loop.trips) :
    (trip_k0_t2 (F := F) 𝒱 c bd i arg1 harg1 arg2 harg2 arg3 harg3 arg4 harg4 arg5 harg5 arg6 harg6 arg7 harg7 arg8 harg8 arg9 harg9 arg10 harg10 arg11 harg11 v59 v73 v85 v96 X5 X11 k).1 = (trip_k0_t2 (F := F) 𝒱 c bd i arg1 harg1 arg2 harg2 arg3 harg3 arg4 harg4 arg5 harg5 arg6 harg6 arg7 harg7 arg8 harg8 arg9 harg9 arg10 harg10 arg11 harg11 v59 v73 v85 v96 X5 X11' k).1 := by
  unfold trip_k0_t2
  dsimp only
  simp only [View.readAt_eq_ld, h]

/-- So do all its trips. -/
theorem pb_congr (h : arg11.view.read (Elt F) X11 = arg11.view.read (Elt F) X11') : ∀ k : ℕ, k ≤ k0_t2_loop.trips →
    pb_k0_t2 (F := F) 𝒱 c bd i arg1 harg1 arg2 harg2 arg3 harg3 arg4 harg4 arg5 harg5 arg6 harg6 arg7 harg7 arg8 harg8 arg9 harg9 arg10 harg10 arg11 harg11 v59 v73 v85 v96 X5 X11 k = pb_k0_t2 (F := F) 𝒱 c bd i arg1 harg1 arg2 harg2 arg3 harg3 arg4 harg4 arg5 harg5 arg6 harg6 arg7 harg7 arg8 harg8 arg9 harg9 arg10 harg10 arg11 harg11 v59 v73 v85 v96 X5 X11' k
  | 0, _ => by rw [pb_k0_t2.eq_1, pb_k0_t2.eq_1]
  | k + 1, hk => by
    have ih := pb_congr h k (Nat.le_of_succ_le hk)
    have e := pb_k0_t2_succ (F := F) 𝒱 c bd i arg1 harg1 arg2 harg2 arg3 harg3 arg4 harg4 arg5 harg5 arg6 harg6 arg7 harg7 arg8 harg8 arg9 harg9 arg10 harg10 arg11 harg11 v59 v73 v85 v96 X5 X11 ⟨k, hk⟩
    have e' := pb_k0_t2_succ (F := F) 𝒱 c bd i arg1 harg1 arg2 harg2 arg3 harg3 arg4 harg4 arg5 harg5 arg6 harg6 arg7 harg7 arg8 harg8 arg9 harg9 arg10 harg10 arg11 harg11 v59 v73 v85 v96 X5 X11' ⟨k, hk⟩
    dsimp only [tripL_k0_t2] at e e'
    refine e.trans (Eq.trans ?_ e'.symm)
    rw [ih]
    exact congrArg (· ++ _) (trip2_L8 (h := h) ..)
end Second
end Indep

/-- The row index word: the grid point divided by twelve, rounded down, as the body computes it. -/
def w16 (i : grid0.Coords) : BitVec 32 :=
  let arg0 : BitVec 32 := BitVec.ofNat 32 (i 0).val
  let v0 : BitVec 32 := Scalar.divsi arg0 12#32
  let v1 : BitVec 1 := Scalar.cmpi .sgt arg0 0#32
  let v2 : BitVec 32 := Scalar.extui v1
  let v3 : BitVec 1 := Scalar.cmpi .slt arg0 0#32
  let v4 : BitVec 32 := Scalar.extui v3
  let v5 : BitVec 32 := Scalar.subi v2 v4
  let v6 : BitVec 1 := Scalar.cmpi .sgt 12#32 0#32
  let v7 : BitVec 32 := Scalar.extui v6
  let v8 : BitVec 1 := Scalar.cmpi .slt 12#32 0#32
  let v9 : BitVec 32 := Scalar.extui v8
  let v10 : BitVec 32 := Scalar.subi v7 v9
  let v11 : BitVec 1 := Scalar.cmpi .ne v5 v10
  let v12 : BitVec 32 := Scalar.remsi arg0 12#32
  let v13 : BitVec 1 := Scalar.cmpi .ne v12 0#32
  let v14 : BitVec 1 := Scalar.andi v11 v13
  let v15 : BitVec 32 := Scalar.subi v0 1#32
  let v16 : BitVec 32 := Scalar.select v14 v15 v0
  v16

/-- The tile's column of token scales: first half's lanes and second half's, as the body builds it. -/
def w59 (i : grid0.Coords) (arg1 : Memref sig .tc .vmem S4x3072 .f32) (harg1 : arg1.IsWhole) (x0 : Vec F S4x3072 .f32) : FVec F S256x128 .f32 :=
  k0_pay20 (w16 i) (View.readAt (Elt F) arg1.view (Rect.unit (s := S4x3072) (k0_off1 i 0#32) S4x128.size (k0_off1_inb i 0)).toLoadRect (harg1.unread x0)) (k0_pay18 i) (k0_pay19 (F := F)) (View.readAt (Elt F) arg1.view (Rect.unit (s := S4x3072) (k0_off1 i 128#32) S4x128.size (k0_off1_inb i 1)).toLoadRect (harg1.unread x0))

/-- The first half of the tile's column of reciprocal deviations. -/
def w73 (i : grid0.Coords) (arg2 : Memref sig .tc .vmem S4x3072 .f32) (harg2 : arg2.IsWhole) (x1 : Vec F S4x3072 .f32) : FVec F S128x128 .f32 :=
  k0_pay21 (w16 i) (View.readAt (Elt F) arg2.view (Rect.unit (s := S4x3072) (k0_off1 i 0#32) S4x128.size (k0_off1_inb i 0)).toLoadRect (harg2.unread x1))

/-- The second half's row of reciprocal deviations. -/
def w85 (i : grid0.Coords) (arg2 : Memref sig .tc .vmem S4x3072 .f32) (harg2 : arg2.IsWhole) (x1 : Vec F S4x3072 .f32) : FVec F S1x128 .f32 :=
  k0_pay22 (w16 i) (View.readAt (Elt F) arg2.view (Rect.unit (s := S4x3072) (k0_off1 i 128#32) S4x128.size (k0_off1_inb i 1)).toLoadRect (harg2.unread x1))

/-- The weight scales as loaded. -/
def w91 (arg4 : Memref sig .tc .vmem S1x6144 .f32) (harg4 : arg4.IsWhole) (x3 : Vec F S1x6144 .f32) : Vec F S1x6144 .f32 :=
  View.readAt (Elt F) arg4.view (Rect.unit (s := S1x6144) ![0, 0] S1x6144.size inb_S1x6144_S1x6144_0_0).toLoadRect (harg4.unread x3)

section Lists
variable (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole)
  (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (G10 : BufTy.Contents (Elt F) arg10.view.ty)

/-- The state after the first loop, at an accumulator that held `G10`. -/
def stJ : FVec F S256x128 .f32 × List (View.Piece (Elt F) S4096x256 .bf16) × List (View.Piece (Elt F) S8x4096 .f32) × List (View.Piece (Elt F) S256x4096 .f32) :=
  st_k0_t1 (F := F) Variants.none c none i arg1 harg1 arg2 harg2 arg3 harg3 arg4 harg4 arg5 harg5 arg6 harg6 arg7 harg7 arg8 harg8 arg9 harg9 arg10 harg10 arg11 harg11 (w59 i arg1 harg1 x0) (w73 i arg2 harg2 x1) (w85 i arg2 harg2 x1) (w91 arg4 harg4 x3) (harg3.unread x2) (harg5.unread x4) (harg6.unread x5) (harg7.unread x6) arg9.view.junk G10 arg11.view.junk (k0_pay4 (F := F)) k0_t1_loop.trips

/-- The second loop's stores. -/
def L7J : List (View.Piece (Elt F) S256x4096 .bf16) :=
  pb_k0_t2 (F := F) Variants.none c none i arg1 harg1 arg2 harg2 arg3 harg3 arg4 harg4 arg5 harg5 arg6 harg6 arg7 harg7 arg8 harg8 arg9 harg9 arg10 harg10 arg11 harg11 (w59 i arg1 harg1 x0) (w73 i arg2 harg2 x1) (w85 i arg2 harg2 x1) (stJ c i arg1 harg1 arg2 harg2 arg3 harg3 arg4 harg4 arg5 harg5 arg6 harg6 arg7 harg7 arg8 harg8 arg9 harg9 arg10 harg10 arg11 harg11 x0 x1 x2 x3 x4 x5 x6 G10).1 (harg5.unread x4)
    (arg11.view.writes (Elt F) arg11.view.junk (stJ c i arg1 harg1 arg2 harg2 arg3 harg3 arg4 harg4 arg5 harg5 arg6 harg6 arg7 harg7 arg8 harg8 arg9 harg9 arg10 harg10 arg11 harg11 x0 x1 x2 x3 x4 x5 x6 G10).2.2.2) k0_t2_loop.trips

/-- The first loop's stores tile the transposed block. -/
theorem cover9J (y : S4096x256.Idx) : ∃ pc ∈ (stJ c i arg1 harg1 arg2 harg2 arg3 harg3 arg4 harg4 arg5 harg5 arg6 harg6 arg7 harg7 arg8 harg8 arg9 harg9 arg10 harg10 arg11 harg11 x0 x1 x2 x3 x4 x5 x6 G10).2.1, y ∈ pc.1.set :=
  View.cover_of_tiledL (stJ c i arg1 harg1 arg2 harg2 arg3 harg3 arg4 harg4 arg5 harg5 arg6 harg6 arg7 harg7 arg8 harg8 arg9 harg9 arg10 harg10 arg11 harg11 x0 x1 x2 x3 x4 x5 x6 G10).2.1 S512x256.size (by sl_kernel_rfl) y
/-- The first loop's stores tile the accumulator. -/
theorem cover10J (y : S8x4096.Idx) : ∃ pc ∈ (stJ c i arg1 harg1 arg2 harg2 arg3 harg3 arg4 harg4 arg5 harg5 arg6 harg6 arg7 harg7 arg8 harg8 arg9 harg9 arg10 harg10 arg11 harg11 x0 x1 x2 x3 x4 x5 x6 G10).2.2.1, y ∈ pc.1.set :=
  View.cover_of_tiledL (stJ c i arg1 harg1 arg2 harg2 arg3 harg3 arg4 harg4 arg5 harg5 arg6 harg6 arg7 harg7 arg8 harg8 arg9 harg9 arg10 harg10 arg11 harg11 x0 x1 x2 x3 x4 x5 x6 G10).2.2.1 S8x512.size (by sl_kernel_rfl) y
/-- The first loop's stores tile the scratch block. -/
theorem cover11J (y : S256x4096.Idx) : ∃ pc ∈ (stJ c i arg1 harg1 arg2 harg2 arg3 harg3 arg4 harg4 arg5 harg5 arg6 harg6 arg7 harg7 arg8 harg8 arg9 harg9 arg10 harg10 arg11 harg11 x0 x1 x2 x3 x4 x5 x6 G10).2.2.2, y ∈ pc.1.set :=
  View.cover_of_tiledL (stJ c i arg1 harg1 arg2 harg2 arg3 harg3 arg4 harg4 arg5 harg5 arg6 harg6 arg7 harg7 arg8 harg8 arg9 harg9 arg10 harg10 arg11 harg11 x0 x1 x2 x3 x4 x5 x6 G10).2.2.2 S256x512.size (by sl_kernel_rfl) y
/-- The second loop's stores tile the output block. -/
theorem cover8J (y : S256x4096.Idx) : ∃ pc ∈ L7J c i arg1 harg1 arg2 harg2 arg3 harg3 arg4 harg4 arg5 harg5 arg6 harg6 arg7 harg7 arg8 harg8 arg9 harg9 arg10 harg10 arg11 harg11 x0 x1 x2 x3 x4 x5 x6 G10, y ∈ pc.1.set :=
  View.cover_of_tiledL (L7J c i arg1 harg1 arg2 harg2 arg3 harg3 arg4 harg4 arg5 harg5 arg6 harg6 arg7 harg7 arg8 harg8 arg9 harg9 arg10 harg10 arg11 harg11 x0 x1 x2 x3 x4 x5 x6 G10) S256x512.size (by sl_kernel_rfl) y

variable (G9 : BufTy.Contents (Elt F) arg9.view.ty) (G11 : BufTy.Contents (Elt F) arg11.view.ty)
/-- Whatever the other two written buffers held, the state is the one above. -/
theorem st_eq : st_k0_t1 (F := F) Variants.none c none i arg1 harg1 arg2 harg2 arg3 harg3 arg4 harg4 arg5 harg5 arg6 harg6 arg7 harg7 arg8 harg8 arg9 harg9 arg10 harg10 arg11 harg11 (w59 i arg1 harg1 x0) (w73 i arg2 harg2 x1) (w85 i arg2 harg2 x1) (w91 arg4 harg4 x3) (harg3.unread x2) (harg5.unread x4) (harg6.unread x5) (harg7.unread x6) G9 G10 G11 (k0_pay4 (F := F)) k0_t1_loop.trips
    = stJ c i arg1 harg1 arg2 harg2 arg3 harg3 arg4 harg4 arg5 harg5 arg6 harg6 arg7 harg7 arg8 harg8 arg9 harg9 arg10 harg10 arg11 harg11 x0 x1 x2 x3 x4 x5 x6 G10 := by
  unfold stJ
  exact st_congr _ _ _ _ _ _ _ _ _ _ _ _ _ _ _ _ _ _ _ _ _ _ _ _ _ _ _ _ _ _ _ _ _ _ _ _ _ _ _ _ k0_t1_loop.trips le_rfl
/-- Whatever the scratch block held, the second loop's stores are the ones above. -/
theorem pb_eq : pb_k0_t2 (F := F) Variants.none c none i arg1 harg1 arg2 harg2 arg3 harg3 arg4 harg4 arg5 harg5 arg6 harg6 arg7 harg7 arg8 harg8 arg9 harg9 arg10 harg10 arg11 harg11 (w59 i arg1 harg1 x0) (w73 i arg2 harg2 x1) (w85 i arg2 harg2 x1) (stJ c i arg1 harg1 arg2 harg2 arg3 harg3 arg4 harg4 arg5 harg5 arg6 harg6 arg7 harg7 arg8 harg8 arg9 harg9 arg10 harg10 arg11 harg11 x0 x1 x2 x3 x4 x5 x6 G10).1 (harg5.unread x4)
    (arg11.view.writes (Elt F) G11 (stJ c i arg1 harg1 arg2 harg2 arg3 harg3 arg4 harg4 arg5 harg5 arg6 harg6 arg7 harg7 arg8 harg8 arg9 harg9 arg10 harg10 arg11 harg11 x0 x1 x2 x3 x4 x5 x6 G10).2.2.2) k0_t2_loop.trips
    = L7J c i arg1 harg1 arg2 harg2 arg3 harg3 arg4 harg4 arg5 harg5 arg6 harg6 arg7 harg7 arg8 harg8 arg9 harg9 arg10 harg10 arg11 harg11 x0 x1 x2 x3 x4 x5 x6 G10 := by
  unfold L7J
  exact pb_congr _ _ _ _ _ _ _ _ _ _ _ _ _ _ _ _ _ _ _ _ _ _ _ _ _ _ _ _ _ _ _ _ _ (View.read_writes_of_cover _ _ _ _ _ (cover11J c i arg1 harg1 arg2 harg2 arg3 harg3 arg4 harg4 arg5 harg5 arg6 harg6 arg7 harg7 arg8 harg8 arg9 harg9 arg10 harg10 arg11 harg11 x0 x1 x2 x3 x4 x5 x6 G10)) k0_t2_loop.trips le_rfl
end Lists

end Cert.Proof.KI

end
-- ==== Proof.KIRunA.lean ====
/-
   THE FIRST CALL of the kernel, at its first grid point: one run of the body, what it stores, and that the stores cover the blocks. -/
module

public import proofs.«01_k».proof.Proof.KILoop

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the buffers' contents when a region is entered
variable (V : (c : Dev nD) → (b : Ref sig .tc) → Buf (Elt F) ((c : Thread nD τ).loc b))
-- the body is long: its proof term is walked once more when the definition is stored
set_option maxHeartbeats 16000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the functions are their skeletons,
    which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) :
    Σ' (L7 : List (View.Piece (Elt F) S256x4096 .bf16)), Σ' (L8 : List (View.Piece (Elt F) S4096x256 .bf16)), { L9 : List (View.Piece (Elt F) S8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc0_dx i arg1 harg1 arg2 harg2 arg3 harg3 arg4 harg4 arg5 harg5 arg6 harg6 arg7 harg7 arg8 harg8 arg9 harg9 arg10 harg10 arg11 harg11) K } := by
  refine ⟨L7J c i arg1 harg1 arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S8x4096) ![0, 0] S8x4096.size inb_S8x4096_S8x4096_0_0, k0_pay17 (F := F)⟩]), (stJ c i arg1 harg1 arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S8x4096) ![0, 0] S8x4096.size inb_S8x4096_S8x4096_0_0, k0_pay17 (F := F)⟩])).2.1, (stJ c i arg1 harg1 arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S8x4096) ![0, 0] S8x4096.size inb_S8x4096_S8x4096_0_0, k0_pay17 (F := F)⟩])).2.2.1 ++ [⟨Rect.unit (s := S8x4096) ![0, 0] S8x4096.size inb_S8x4096_S8x4096_0_0, k0_pay17 (F := F)⟩], fun E K => ?run⟩
  case run =>
    simp only [cc0_dx_eq_skeleton]; unfold cc0_dx_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    rw [← pb_eq c i arg1 harg1 arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S8x4096) ![0, 0] S8x4096.size inb_S8x4096_S8x4096_0_0, k0_pay17 (F := F)⟩]) fs0]
    rw [← st_eq c i arg1 harg1 arg2 harg2 arg3 harg3 arg4 harg4 arg5 harg5 arg6 harg6 arg7 harg7 arg8 harg8 arg9 harg9 arg10 harg10 arg11 harg11 x0 x1 x2 x3 x4 x5 x6 (arg10.view.writes (Elt F) arg10.view.junk [⟨Rect.unit (s := S8x4096) ![0, 0] S8x4096.size inb_S8x4096_S8x4096_0_0, k0_pay17 (F := F)⟩]) f8 fs0]
    isplitl [H7]; · iexists f7; iexact H7
    isplitl [H8]; · iexists f8; iexact H8
    isplitl [H9]; · iexists _; iexact H9
    iexists _, _; isplitr; swap; · iexact HS0
    ipureintro; rfl

/-- Case A's pieces for output 7 tile its block (8 stores of `S256x512`), so they cover it. -/
theorem cover0_A_7 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (y : S256x4096.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1 S256x512.size (by sl_kernel_rfl) y

/-- What case A leaves in output 7's staging buffer: its pieces read back over junk. -/
def out0_A_7 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) : Vec F S256x4096 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1)

/-- Case A's pieces for output 8 tile its block (8 stores of `S512x256`), so they cover it. -/
theorem cover0_A_8 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (y : S4096x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1 S512x256.size (by sl_kernel_rfl) y

/-- What case A leaves in output 8's staging buffer: its pieces read back over junk. -/
def out0_A_8 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) : Vec F S4096x256 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1)

/-- Case A's pieces for output 9 are of SEVERAL sizes (9 stores of `S8x4096`, `S8x512`): cut into blocks of `![8, 512]` they tile its block, so they cover it. -/
theorem cover0_A_9 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (y : S8x4096.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.1 ![8, 512] (by sl_kernel_rfl) y

/-- What case A leaves in output 9's staging buffer: its pieces read back over junk. -/
def out0_A_9 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) : Vec F S8x4096 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.2.1)

end Regions

end Cert.Proof.KI

end
-- ==== Proof.KIRunB.lean ====
/-
   THE FIRST CALL of the kernel, at every later grid point: one run of the body, what it stores, and that the stores cover the blocks. -/
module

public import proofs.«01_k».proof.Proof.KILoop

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the buffers' contents when a region is entered
variable (V : (c : Dev nD) → (b : Ref sig .tc) → Buf (Elt F) ((c : Thread nD τ).loc b))
-- the body is long: its proof term is walked once more when the definition is stored
set_option maxHeartbeats 16000000 in
/-- What the body's stores leave in each output's staging memref, as pieces (last first) IN CASE B (`scf.if` 0 not taken: points 1, 2, … 47: 47 of 48), WITH the
    proof that on whole staging memrefs — the inputs' at their contents, the outputs it reads before covering (9) at their running contents `xo·`, the other outputs' at
    anything, the scratch buffers at anything, the body runs to the continuation holding the inputs' as they were,
    the scratch at some contents, each output's buffer with its pieces written: the functions are their skeletons,
    which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : ¬cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (xo9 : Vec F S8x4096 .f32) :
    Σ' (L7 : List (View.Piece (Elt F) S256x4096 .bf16)), Σ' (L8 : List (View.Piece (Elt F) S4096x256 .bf16)), { L9 : List (View.Piece (Elt F) S8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xo9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc0_dx i arg1 harg1 arg2 harg2 arg3 harg3 arg4 harg4 arg5 harg5 arg6 harg6 arg7 harg7 arg8 harg8 arg9 harg9 arg10 harg10 arg11 harg11) K } := by
  refine ⟨L7J c i arg1 harg1 arg2 harg2 arg3 harg3 arg4 harg4 arg5 harg5 arg6 harg6 arg7 harg7 arg8 harg8 arg9 harg9 arg10 harg10 arg11 harg11 x0 x1 x2 x3 x4 x5 x6 (harg10.unread xo9), (stJ c i arg1 harg1 arg2 harg2 arg3 harg3 arg4 harg4 arg5 harg5 arg6 harg6 arg7 harg7 arg8 harg8 arg9 harg9 arg10 harg10 arg11 harg11 x0 x1 x2 x3 x4 x5 x6 (harg10.unread xo9)).2.1, (stJ c i arg1 harg1 arg2 harg2 arg3 harg3 arg4 harg4 arg5 harg5 arg6 harg6 arg7 harg7 arg8 harg8 arg9 harg9 arg10 harg10 arg11 harg11 x0 x1 x2 x3 x4 x5 x6 (harg10.unread xo9)).2.2.1, fun E K => ?run⟩
  case run =>
    simp only [cc0_dx_eq_skeleton]; unfold cc0_dx_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    rw [← pb_eq c i arg1 harg1 arg2 harg2 arg3 harg3 arg4 harg4 arg5 harg5 arg6 harg6 arg7 harg7 arg8 harg8 arg9 harg9 arg10 harg10 arg11 harg11 x0 x1 x2 x3 x4 x5 x6 (harg10.unread xo9) fs0]
    rw [← st_eq c i arg1 harg1 arg2 harg2 arg3 harg3 arg4 harg4 arg5 harg5 arg6 harg6 arg7 harg7 arg8 harg8 arg9 harg9 arg10 harg10 arg11 harg11 x0 x1 x2 x3 x4 x5 x6 (harg10.unread xo9) f8 fs0]
    isplitl [H7]; · iexists f7; iexact H7
    isplitl [H8]; · iexists f8; iexact H8
    isplitl [H9]; · iexists _; iexact H9
    iexists _, _; isplitr; swap; · iexact HS0
    ipureintro; rfl

/-- Case B's pieces for output 7 tile its block (8 stores of `S256x512`), so they cover it. -/
theorem cover0_B_7 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : ¬cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (xo9 : Vec F S8x4096 .f32) (y : S256x4096.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).1 S256x512.size (by sl_kernel_rfl) y

/-- What case B leaves in output 7's staging buffer: its pieces read back over junk. -/
def out0_B_7 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : ¬cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (xo9 : Vec F S8x4096 .f32) : Vec F S256x4096 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).1)

/-- Case B's pieces for output 8 tile its block (8 stores of `S512x256`), so they cover it. -/
theorem cover0_B_8 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : ¬cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (xo9 : Vec F S8x4096 .f32) (y : S4096x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).2.1 S512x256.size (by sl_kernel_rfl) y

/-- What case B leaves in output 8's staging buffer: its pieces read back over junk. -/
def out0_B_8 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : ¬cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (xo9 : Vec F S8x4096 .f32) : Vec F S4096x256 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).2.1)

/-- Case B's pieces for output 9 tile its block (8 stores of `S8x512`), so they cover it. -/
theorem cover0_B_9 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : ¬cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (xo9 : Vec F S8x4096 .f32) (y : S8x4096.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).2.2.1 S8x512.size (by sl_kernel_rfl) y

/-- What case B leaves in output 9's staging buffer: its pieces read back over junk. -/
def out0_B_9 (c : Dev nD) (i : grid0.Coords) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole) (hc0 : ¬cond0_0 i)
    (x0 : Vec F S4x3072 .f32) (x1 : Vec F S4x3072 .f32) (x2 : Vec F S1x4096 .f32) (x3 : Vec F S1x6144 .f32) (x4 : Vec F S256x4096 .fp8e4m3) (x5 : Vec F S4096x6144 .fp8e4m3) (x6 : Vec F S256x6144 .bf16) (xo9 : Vec F S8x4096 .f32) : Vec F S8x4096 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xo9).2.2.1)

end Regions

end Cert.Proof.KI

end
-- ==== Proof.Tile.lean ====
/-
   THE FIRST CALL over the extended reals, one grid point on any buffers: what its stores leave is the tile's mathematics. -/
module

public import proofs.«01_k».proof.Proof.Trip
public import proofs.«01_k».proof.Proof.KIRunA
public import proofs.«01_k».proof.Proof.KIRunB

@[expose] public section

set_option maxRecDepth 16384

noncomputable section

namespace Cert.Proof.Tile

open Idealize.ShloMosaic Idealize.ShloMosaic.TcCoe Idealize.ShloMosaic.Tactic
open Cert.KernelIdeal Cert.KernelIdeal.Gen Cert.Proof.KI Cert.Proof.Pay Cert.Proof.Loop1 Cert.Proof.Trip
open scoped BigOperators

/-- The row word of a point is its number divided by twelve. -/
theorem w16_eq : ∀ t : Fin cfg0.N, w16 (grid0.coords t) = BitVec.ofNat 32 (t.val / 12) := by decide +kernel
/-- The column offset of a point's first half, -/
theorem off0 : ∀ t : Fin cfg0.N, k0_off1 (grid0.coords t) 0#32 = ![0, t.val % 12 * 256] := by decide +kernel
/-- and of its second half. -/
theorem off1 : ∀ t : Fin cfg0.N, k0_off1 (grid0.coords t) 128#32 = ![0, t.val % 12 * 256 + 128] := by decide +kernel
/-- There are eight trips. -/
theorem trips1 : k0_t1_loop.trips = 8 := by decide +kernel
/-- The same of the second loop. -/
theorem trips2 : k0_t2_loop.trips = 8 := by decide +kernel

variable (c : Dev nD) (t : Fin cfg0.N) (arg1 : Memref sig .tc .vmem S4x3072 .f32) (harg1 : arg1.IsWhole) (arg2 : Memref sig .tc .vmem S4x3072 .f32) (harg2 : arg2.IsWhole) (arg3 : Memref sig .tc .vmem S1x4096 .f32) (harg3 : arg3.IsWhole) (arg4 : Memref sig .tc .vmem S1x6144 .f32) (harg4 : arg4.IsWhole) (arg5 : Memref sig .tc .vmem S256x4096 .fp8e4m3) (harg5 : arg5.IsWhole) (arg6 : Memref sig .tc .vmem S4096x6144 .fp8e4m3) (harg6 : arg6.IsWhole) (arg7 : Memref sig .tc .vmem S256x6144 .bf16) (harg7 : arg7.IsWhole) (arg8 : Memref sig .tc .vmem S256x4096 .bf16) (harg8 : arg8.IsWhole) (arg9 : Memref sig .tc .vmem S4096x256 .bf16) (harg9 : arg9.IsWhole) (arg10 : Memref sig .tc .vmem S8x4096 .f32) (harg10 : arg10.IsWhole) (arg11 : Memref sig .tc .vmem S256x4096 .f32) (harg11 : arg11.IsWhole)
  (x0 : Vec Ideal S4x3072 .f32) (x1 : Vec Ideal S4x3072 .f32) (x2 : Vec Ideal S1x4096 .f32) (x3 : Vec Ideal S1x6144 .f32) (x4 : Vec Ideal S256x4096 .fp8e4m3) (x5 : Vec Ideal S4096x6144 .fp8e4m3) (x6 : Vec Ideal S256x6144 .bf16)

/-- There are 48 points. -/
theorem t_lt : t.val < 48 := lt_of_lt_of_eq t.isLt (show cfg0.N = 48 from N_0)

/-- A token's column of an array of four rows, at the point. -/
def col (x : Vec Ideal S4x3072 .f32) (r : Fin 256) : EReal :=
  x (ix2 ⟨t.val / 12, by have := t_lt t; omega⟩ ⟨t.val % 12 * 256 + r.val, by omega⟩)

include harg1 in
/-- The tile's scales as the body builds them are the tokens'. -/
theorem hA (r : Fin 256) (j : Fin 512) : k0_pay1 (F := Ideal) (w59 (grid0.coords t) arg1 harg1 x0) (ix2 r j) = col t x0 r := by
  have ht := t_lt t
  rw [pay1_apply]
  unfold w59
  simp only [View.readAt_eq_ld, harg1.read_unread]
  refine (pay20_apply _ ⟨t.val / 12, by omega⟩ (w16_eq t) _ _ _ (fun x l => ?_) r _).trans ?_
  · pointwise [k0_pay18, w16]
  · split
    · refine (ld2 x0 (off0 t) _ _ _ (by dsimp only; omega) (by dsimp only; omega)).trans ?_
      unfold col
      congr 2
      apply Fin.ext; dsimp only; omega
    · refine (ld2 x0 (off1 t) _ _ _ (by dsimp only; omega) (by dsimp only; omega)).trans ?_
      unfold col
      congr 2
      · apply Fin.ext; dsimp only; omega
      · apply Fin.ext; dsimp only; omega

include harg2 in
/-- So are its reciprocal deviations. -/
theorem hB (r : Fin 256) (j : Fin 512) : k0_pay2 (F := Ideal) (w73 (grid0.coords t) arg2 harg2 x1) (w85 (grid0.coords t) arg2 harg2 x1) (ix2 r j) = col t x1 r := by
  have ht := t_lt t
  rw [pay2_apply]
  unfold w73 w85
  simp only [View.readAt_eq_ld, harg2.read_unread]
  split
  · refine (pay21_apply _ ⟨t.val / 12, by omega⟩ (w16_eq t) _ _ _).trans ?_
    refine (ld2 x1 (off0 t) _ _ _ (by dsimp only; omega) (by dsimp only; omega)).trans ?_
    unfold col
    congr 2
    apply Fin.ext; dsimp only; omega
  · refine (pay22_apply _ ⟨t.val / 12, by omega⟩ (w16_eq t) _ _).trans ?_
    refine (ld2 x1 (off1 t) _ _ _ (by dsimp only; omega) (by dsimp only; omega)).trans ?_
    unfold col
    congr 2
    · apply Fin.ext; dsimp only; omega
    · apply Fin.ext; dsimp only; omega

/-- The weight scales as loaded are the buffer's contents. -/
theorem w91_eq : w91 (F := Ideal) arg4 harg4 x3 = x3 := by
  unfold w91
  rw [View.readAt_eq_ld, harg4.read_unread]
  funext y
  obtain ⟨a, k, rfl⟩ : ∃ (a : Fin 1) (k : Fin 6144), y = ix2 a k := ⟨y 0, y 1, eq_ix2 y⟩
  refine (ld2 x3 rfl _ a k (by omega) (by omega)).trans ?_
  congr 2 <;> (apply Fin.ext; simp)

section J
variable (G10 : BufTy.Contents (Elt Ideal) arg10.view.ty)

/-- The invariant of the first loop, at its end. -/
theorem inv : Inv x2 x3 x4 x5 x6 (col t x0) (col t x1) (arg10.view.read (Elt Ideal) G10) k0_t1_loop.trips (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10) := by
  have h := st_inv Variants.none c none (grid0.coords t) arg1 harg1 arg2 harg2 arg3 harg3 arg4 harg4 arg5 harg5 arg6 harg6 arg7 harg7 arg8 harg8 arg9 harg9 arg10 harg10 arg11 harg11 (w59 (grid0.coords t) arg1 harg1 x0) (w73 (grid0.coords t) arg2 harg2 x1) (w85 (grid0.coords t) arg2 harg2 x1) (w91 arg4 harg4 x3) (harg3.unread x2) (harg5.unread x4) (harg6.unread x5) (harg7.unread x6)
    arg9.view.junk G10 arg11.view.junk (col t x0) (col t x1) (hA t arg1 harg1 x0) (hB t arg2 harg2 x1)
  rw [harg3.read_unread, harg5.read_unread, harg6.read_unread, harg7.read_unread] at h
  rw [show (w91 (F := Ideal) arg4 harg4 x3) = x3 from w91_eq arg4 harg4 x3] at h
  unfold stJ
  rw [show (w91 (F := Ideal) arg4 harg4 x3) = x3 from w91_eq arg4 harg4 x3]
  exact h

/-- The transposed scaled activations the point leaves. -/
theorem read9 {κ : Kind} {sp : Space} {sg : RefSig} (v : View sg κ sp S4096x256 .bf16) (f : v.ty.Contents (Elt Ideal)) (d : Fin 4096) (r : Fin 256) :
    v.read (Elt Ideal) (v.writes (Elt Ideal) f (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10).2.1) (ix2 d r) = T9 (col t x0) (col t x1) x2 x4 (ix2 d r) :=
  have h := inv c t arg1 harg1 arg2 harg2 arg3 harg3 arg4 harg4 arg5 harg5 arg6 harg6 arg7 harg7 arg8 harg8 arg9 harg9 arg10 harg10 arg11 harg11 x0 x1 x2 x3 x4 x5 x6 G10
  View.read_writes_apply_of_pieces v f _ _ h.p9 _ (h.c9 d r (by rw [trips1]; omega))

/-- The partial rows of the gain's gradient the point leaves, over the old contents. -/
theorem read10 {κ : Kind} {sp : Space} {sg : RefSig} (v : View sg κ sp S8x4096 .f32) (f : v.ty.Contents (Elt Ideal)) (s : Fin 8) (d : Fin 4096) :
    v.read (Elt Ideal) (v.writes (Elt Ideal) f (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10).2.2.1) (ix2 s d) = T10 (col t x0) (col t x1) x3 x4 x5 x6 (arg10.view.read (Elt Ideal) G10) (ix2 s d) :=
  have h := inv c t arg1 harg1 arg2 harg2 arg3 harg3 arg4 harg4 arg5 harg5 arg6 harg6 arg7 harg7 arg8 harg8 arg9 harg9 arg10 harg10 arg11 harg11 x0 x1 x2 x3 x4 x5 x6 G10
  View.read_writes_apply_of_pieces v f _ _ h.p10 _ (h.c10 s d (by rw [trips1]; omega))

/-- The scratch gradients the point leaves. -/
theorem read11 {κ : Kind} {sp : Space} {sg : RefSig} (v : View sg κ sp S256x4096 .f32) (f : v.ty.Contents (Elt Ideal)) (r : Fin 256) (d : Fin 4096) :
    v.read (Elt Ideal) (v.writes (Elt Ideal) f (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10).2.2.2) (ix2 r d) = gv x2 x3 x5 x6 r d :=
  have h := inv c t arg1 harg1 arg2 harg2 arg3 harg3 arg4 harg4 arg5 harg5 arg6 harg6 arg7 harg7 arg8 harg8 arg9 harg9 arg10 harg10 arg11 harg11 x0 x1 x2 x3 x4 x5 x6 G10
  View.read_writes_apply_of_pieces v f _ _ h.p11 _ (h.c11 r d (by rw [trips1]; omega))

/-- The carried lanes sum to the row's inner product. -/
theorem acc (r : Fin 256) : ∑ l : Fin 128, (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10).1 (ix2 r l) = ∑ d : Fin 4096, gv x2 x3 x5 x6 r d * nrm (col t x0) (col t x1) x4 r d := by
  have h := inv c t arg1 harg1 arg2 harg2 arg3 harg3 arg4 harg4 arg5 harg5 arg6 harg6 arg7 harg7 arg8 harg8 arg9 harg9 arg10 harg10 arg11 harg11 x0 x1 x2 x3 x4 x5 x6 G10
  have e : ∀ l : Fin 128, (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10).1 (ix2 r l) = ∑ m ∈ Finset.range 32, gnAt (col t x0) (col t x1) x2 x3 x4 x5 x6 r (128 * m + l.val) := fun l => by
    rw [h.acc r l, trips1]
  rw [Finset.sum_congr rfl fun l _ => e l]
  refine (lanes_sum (gnAt (col t x0) (col t x1) x2 x3 x4 x5 x6 r)).trans (Finset.sum_congr rfl fun d _ => ?_)
  rw [gnAt, dif_pos d.isLt]

/-- The input gradient the point leaves. -/
theorem read8 {κ : Kind} {sp : Space} {sg : RefSig} (v : View sg κ sp S256x4096 .bf16) (f : v.ty.Contents (Elt Ideal)) (r : Fin 256) (d : Fin 4096) :
    v.read (Elt Ideal) (v.writes (Elt Ideal) f (L7J c (grid0.coords t) arg1 harg1 arg2 harg2 arg3 harg3 arg4 harg4 arg5 harg5 arg6 harg6 arg7 harg7 arg8 harg8 arg9 harg9 arg10 harg10 arg11 harg11 x0 x1 x2 x3 x4 x5 x6 G10)) (ix2 r d) = T8 (col t x0) (col t x1) x2 x3 x4 x5 x6 (ix2 r d) := by
  have h := pb_inv Variants.none c none (grid0.coords t) arg1 harg1 arg2 harg2 arg3 harg3 arg4 harg4 arg5 harg5 arg6 harg6 arg7 harg7 arg8 harg8 arg9 harg9 arg10 harg10 arg11 harg11 (w59 (grid0.coords t) arg1 harg1 x0) (w73 (grid0.coords t) arg2 harg2 x1) (w85 (grid0.coords t) arg2 harg2 x1) (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10).1 (harg5.unread x4) (arg11.view.writes (Elt Ideal) arg11.view.junk (stJ c (grid0.coords t) arg1 harg1 arg2 harg2 arg3 harg3 arg4 harg4 arg5 harg5 arg6 harg6 arg7 harg7 arg8 harg8 arg9 harg9 arg10 harg10 arg11 harg11 x0 x1 x2 x3 x4 x5 x6 G10).2.2.2)
    x2 x3 x5 x6 (col t x0) (col t x1) (hA t arg1 harg1 x0) (hB t arg2 harg2 x1) (fun r d => read11 c t arg1 harg1 arg2 harg2 arg3 harg3 arg4 harg4 arg5 harg5 arg6 harg6 arg7 harg7 arg8 harg8 arg9 harg9 arg10 harg10 arg11 harg11 x0 x1 x2 x3 x4 x5 x6 G10 arg11.view _ r d)
    (fun r => by rw [harg5.read_unread]; exact acc c t arg1 harg1 arg2 harg2 arg3 harg3 arg4 harg4 arg5 harg5 arg6 harg6 arg7 harg7 arg8 harg8 arg9 harg9 arg10 harg10 arg11 harg11 x0 x1 x2 x3 x4 x5 x6 G10 r) k0_t2_loop.trips le_rfl
  rw [harg5.read_unread] at h
  unfold L7J
  exact View.read_writes_apply_of_pieces v f _ _ h.1 _ (h.2 r d (by rw [trips2]; omega))
end J

/-! ## What the run leaves, at the first point and at a later one -/

section A
variable (hc0 : cond0_0 (grid0.coords t))
/-- At the first point: the input's gradient, -/
theorem outA7 (r : Fin 256) (d : Fin 4096) : out0_A_7 c (grid0.coords t) arg1 harg1 arg2 harg2 arg3 harg3 arg4 harg4 arg5 harg5 arg6 harg6 arg7 harg7 arg8 harg8 arg9 harg9 arg10 harg10 arg11 harg11 hc0 x0 x1 x2 x3 x4 x5 x6 (ix2 r d) = T8 (col t x0) (col t x1) x2 x3 x4 x5 x6 (ix2 r d) := by
  unfold out0_A_7 kernelRun0_A
  exact read8 ..
/-- the normalised input times the gain, transposed, -/
theorem outA8 (d : Fin 4096) (r : Fin 256) : out0_A_8 c (grid0.coords t) arg1 harg1 arg2 harg2 arg3 harg3 arg4 harg4 arg5 harg5 arg6 harg6 arg7 harg7 arg8 harg8 arg9 harg9 arg10 harg10 arg11 harg11 hc0 x0 x1 x2 x3 x4 x5 x6 (ix2 d r) = T9 (col t x0) (col t x1) x2 x4 (ix2 d r) := by
  unfold out0_A_8 kernelRun0_A
  exact read9 ..
/-- and the partial rows, from zero. -/
theorem outA9 (s : Fin 8) (d : Fin 4096) : out0_A_9 c (grid0.coords t) arg1 harg1 arg2 harg2 arg3 harg3 arg4 harg4 arg5 harg5 arg6 harg6 arg7 harg7 arg8 harg8 arg9 harg9 arg10 harg10 arg11 harg11 hc0 x0 x1 x2 x3 x4 x5 x6 (ix2 s d) = T10 (col t x0) (col t x1) x3 x4 x5 x6 (fun _ => 0) (ix2 s d) := by
  unfold out0_A_9 kernelRun0_A
  dsimp only
  rw [View.writes_append, read10]
  unfold T10
  congr 1
  refine (View.read_writes_apply_of_pieces (Val := Elt Ideal) arg10.view _ (fun _ => (0 : EReal)) _ (fun p hp x => ?_) _ ⟨_, List.mem_cons_self, ?_⟩)
  · obtain rfl := List.mem_singleton.mp hp
    exact pay17_apply x
  · exact (mem2 rfl inb_S8x4096_S8x4096_0_0 s d).mpr ⟨⟨by omega, by omega⟩, by omega, by omega⟩
end A

section B
variable (hc0 : ¬cond0_0 (grid0.coords t)) (xo9 : Vec Ideal S8x4096 .f32)
/-- At a later point: the input's gradient, -/
theorem outB7 (r : Fin 256) (d : Fin 4096) : out0_B_7 c (grid0.coords t) arg1 harg1 arg2 harg2 arg3 harg3 arg4 harg4 arg5 harg5 arg6 harg6 arg7 harg7 arg8 harg8 arg9 harg9 arg10 harg10 arg11 harg11 hc0 x0 x1 x2 x3 x4 x5 x6 xo9 (ix2 r d) = T8 (col t x0) (col t x1) x2 x3 x4 x5 x6 (ix2 r d) := by
  unfold out0_B_7 kernelRun0_B
  exact read8 ..
/-- the normalised input times the gain, transposed, -/
theorem outB8 (d : Fin 4096) (r : Fin 256) : out0_B_8 c (grid0.coords t) arg1 harg1 arg2 harg2 arg3 harg3 arg4 harg4 arg5 harg5 arg6 harg6 arg7 harg7 arg8 harg8 arg9 harg9 arg10 harg10 arg11 harg11 hc0 x0 x1 x2 x3 x4 x5 x6 xo9 (ix2 d r) = T9 (col t x0) (col t x1) x2 x4 (ix2 d r) := by
  unfold out0_B_8 kernelRun0_B
  exact read9 ..
/-- and the partial rows, from what was there. -/
theorem outB9 (s : Fin 8) (d : Fin 4096) : out0_B_9 c (grid0.coords t) arg1 harg1 arg2 harg2 arg3 harg3 arg4 harg4 arg5 harg5 arg6 harg6 arg7 harg7 arg8 harg8 arg9 harg9 arg10 harg10 arg11 harg11 hc0 x0 x1 x2 x3 x4 x5 x6 xo9 (ix2 s d) = T10 (col t x0) (col t x1) x3 x4 x5 x6 xo9 (ix2 s d) := by
  unfold out0_B_9 kernelRun0_B
  dsimp only
  rw [read10, harg10.read_unread]
end B

end Cert.Proof.Tile
-- ==== Proof.KIReg0.lean ====
/-
   THE FIRST CALL of the kernel: what its outputs hold after each grid point, and the body's obligation. -/
module

public import proofs.«01_k».proof.Proof.KIRunA
public import proofs.«01_k».proof.Proof.KIRunB

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the buffers' contents when a region is entered
variable (V : (c : Dev nD) → (b : Ref sig .tc) → Buf (Elt F) ((c : Thread nD τ).loc b))
/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x4096 .bf16 × Vec F S4096x256 .bf16 × Vec F S8x4096 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 48 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)

/-- `outsAt0` at a point of case A: that case's contents. -/
theorem outsAt0_A (c : Dev nD) (t : Fin cfg0.N) (h0 : t.val % 48 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 48 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (`ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
/-- At a point of case B output 9's current staging buffer holds what the body left at the point before: the point is
    not the first, the buffer was not written back between (`flush0_9`), the window is live and uncut
    (`Dat.before_out_kept`). -/
theorem before0_9_B (c : Dev nD) (t : Fin cfg0.N) (h0 : ¬t.val % 48 = 0) (d) :
    (dat0 V c).before 9 t d = (outsAt0 V c (t.val - 1) (Nat.lt_of_le_of_lt (Nat.sub_le _ _) t.isLt)).2.2 := by
  have hN : t.val < 48 := lt_of_lt_of_eq t.isLt (show cfg0.N = 48 from N_0)
  rw [Dat.before_out_kept _ 9 rfl t (by omega) (Bool.eq_false_iff.mpr fun h => by have := (flush0_9 _).mp h; dsimp only at this; omega)
    (fun _ => rfl) (fun _ _ => rfl)]
  dsimp only [dat0]

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  rw [show (dat0 V c).Φ t.castSucc = Pipeline.ΦA spec0 c from rfl, PhiA0_eq]
  have hN : t.val < 48 := lt_of_lt_of_eq t.isLt (show cfg0.N = 48 from N_0)
  by_cases h0 : t.val % 48 = 0
  · rw [outsAt0_A V c t h0]
    unfold out0_A_7 out0_A_8 out0_A_9; (try dsimp only)
    iintro ⟨⟨⟨HS0, HR1, HR2, HR3, HR4, HR5, HR6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    iintro ⟨H0, H1, H2, H3, H4, H5, H6, ⟨%e7, H7⟩, ⟨%e8, H8⟩, ⟨%e9, H9⟩, HS0⟩
    isplitl [HS0 HR1 HR2 HR3 HR4 HR5 HR6 Hg]
    · isplitl [HS0 HR1 HR2 HR3 HR4 HR5 HR6]
      · isplitl [HS0]
        · iexact HS0
        isplitl [HR1]
        · iexact HR1
        isplitl [HR2]
        · iexact HR2
        isplitl [HR3]
        · iexact HR3
        isplitl [HR4]
        · iexact HR4
        isplitl [HR5]
        · iexact HR5
        iexact HR6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outsAt0_B V c t h0]
    simp only [before0_9_B V c t h0]
    unfold out0_B_7 out0_B_8 out0_B_9; (try dsimp only)
    iintro ⟨⟨⟨HS0, HR1, HR2, HR3, HR4, HR5, HR6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [HS0]; · iexact HS0
    iintro ⟨H0, H1, H2, H3, H4, H5, H6, ⟨%e7, H7⟩, ⟨%e8, H8⟩, ⟨%e9, H9⟩, HS0⟩
    isplitl [HS0 HR1 HR2 HR3 HR4 HR5 HR6 Hg]
    · isplitl [HS0 HR1 HR2 HR3 HR4 HR5 HR6]
      · isplitl [HS0]
        · iexact HS0
        isplitl [HR1]
        · iexact HR1
        isplitl [HR2]
        · iexact HR2
        isplitl [HR3]
        · iexact HR3
        isplitl [HR4]
        · iexact HR4
        isplitl [HR5]
        · iexact HR5
        iexact HR6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Proof.KI

end
-- ==== Proof.Dx.lean ====
/-
   THE FIRST CALL over the extended reals: the three arrays it leaves, in the specification's terms. -/
module

public import proofs.«01_k».proof.Proof.Spec
public import proofs.«01_k».proof.Proof.Tok
public import proofs.«01_k».proof.Proof.Tile
public import proofs.«01_k».proof.Proof.KIReg0
public import Idealize.ShloMosaic.Lib.Pipeline.ValueKit

@[expose] public section

set_option maxRecDepth 16384

noncomputable section

namespace Cert.Proof.Dx

open Idealize.ShloMosaic Idealize.ShloMosaic.TcCoe Idealize.ShloMosaic.Tactic
open Idealize.ShloMosaic.Pipeline (Dat Cfg Window)
open Cert.KernelIdeal Cert.KernelIdeal.Gen Cert.Proof.KI Cert.Proof.Tok
open scoped BigOperators

variable (V : (c : Dev nD) → (b : Ref sig .tc) → Buf (Elt Ideal) ((c : Thread nD τ).loc b)) (c : Dev nD)

/-! ## The operands as the call finds them -/

/-- The activation codes, -/
def cd (q : Fin 12288) (d : Fin 4096) : EReal := V c main_v0 (ix2 q d)
/-- the tokens' scales, -/
def sx : Fin 12288 → EReal := tok2 fun b s => V c main_arg1 (ix2 b s)
/-- their reciprocal deviations, -/
def rs : Fin 12288 → EReal := tok2 fun b s => V c main_arg2 (ix2 b s)
/-- the gain, -/
def ga (d : Fin 4096) : EReal := V c main_v2 (ix2 0 d)
/-- the weight's codes, -/
def wc (d : Fin 4096) (k : Fin 6144) : EReal := V c main_arg4 (ix2 d k)
/-- its scales, -/
def ws (k : Fin 6144) : EReal := V c main_v3 (ix2 0 k)
/-- and the incoming gradient. -/
def dq (q : Fin 12288) (k : Fin 6144) : EReal := V c main_v1 (ix2 q k)

/-! ## The blocks of a point -/

def X0 (t : Fin cfg0.N) : Vec Ideal S4x3072 .f32 := iblk0 V c 0 t
def X1 (t : Fin cfg0.N) : Vec Ideal S4x3072 .f32 := iblk0 V c 1 t
def X2 (t : Fin cfg0.N) : Vec Ideal S1x4096 .f32 := iblk0 V c 2 t
def X3 (t : Fin cfg0.N) : Vec Ideal S1x6144 .f32 := iblk0 V c 3 t
def X4 (t : Fin cfg0.N) : Vec Ideal S256x4096 .fp8e4m3 := iblk0 V c 4 t
def X5 (t : Fin cfg0.N) : Vec Ideal S4096x6144 .fp8e4m3 := iblk0 V c 5 t
def X6 (t : Fin cfg0.N) : Vec Ideal S256x6144 .bf16 := iblk0 V c 6 t

/-- Which block of each array a grid point works on. -/
theorem idx : ∀ t : Fin cfg0.N, win0_0.index t = ![0, 0] ∧ win0_1.index t = ![0, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0]
    ∧ win0_8.index t = ![0, t.val] ∧ win0_9.index t = ![0, 0] := by
  decide +kernel

variable (t : Fin cfg0.N)

/-- There are 48 points. -/
theorem t_lt : t.val < 48 := lt_of_lt_of_eq t.isLt (show cfg0.N = 48 from N_0)

/-- The token that row `r` of a point's tile is. -/
def tok (r : Fin 256) : Fin 12288 := ⟨t.val * 256 + r.val, by have := t_lt t; omega⟩

/-- The point's block of the input scales is the whole array. -/
theorem x0_eq (b : Fin 4) (s : Fin 3072) : X0 V c t (ix2 b s) = V c main_arg1 (ix2 b s) := by
  unfold X0
  blk_ext [iblk0, (idx t).1]
/-- So is that of the reciprocal root mean squares, -/
theorem x1_eq (b : Fin 4) (s : Fin 3072) : X1 V c t (ix2 b s) = V c main_arg2 (ix2 b s) := by
  unfold X1
  blk_ext [iblk0, (idx t).2.1]
/-- of the gain -/
theorem x2_eq (d : Fin 4096) : X2 V c t (ix2 0 d) = ga V c d := by
  unfold X2 ga
  blk_ext [iblk0, (idx t).2.2.1]
/-- and of the weight scales. -/
theorem x3_eq (k : Fin 6144) : X3 V c t (ix2 0 k) = ws V c k := by
  unfold X3 ws
  blk_ext [iblk0, (idx t).2.2.2.1]
/-- The block of the input codes is the point's 256 tokens. -/
theorem x4_eq (r : Fin 256) (d : Fin 4096) : X4 V c t (ix2 r d) = cd V c (tok t r) d := by
  unfold X4 cd tok
  blk_ext [iblk0, (idx t).2.2.2.2.1]
/-- The block of the weight codes is the whole array. -/
theorem x5_eq (d : Fin 4096) (k : Fin 6144) : X5 V c t (ix2 d k) = wc V c d k := by
  unfold X5 wc
  blk_ext [iblk0, (idx t).2.2.2.2.2.1]
/-- The block of the output gradient is the point's 256 tokens. -/
theorem x6_eq (r : Fin 256) (k : Fin 6144) : X6 V c t (ix2 r k) = dq V c (tok t r) k := by
  unfold X6 dq tok
  blk_ext [iblk0, (idx t).2.2.2.2.2.2.1]
/-- The tile's column of scales is the tokens' scales. -/
theorem col0_eq (r : Fin 256) : Tile.col t (X0 V c t) r = sx V c (tok t r) := by
  have := t_lt t
  unfold Tile.col sx tok2 tok
  rw [x0_eq]
  congr 2 <;> (apply Fin.ext; dsimp only; omega)
/-- So is the column of reciprocal deviations. -/
theorem col1_eq (r : Fin 256) : Tile.col t (X1 V c t) r = rs V c (tok t r) := by
  have := t_lt t
  unfold Tile.col rs tok2 tok
  rw [x1_eq]
  congr 2 <;> (apply Fin.ext; dsimp only; omega)

/-! ## The tile's mathematics is the specification's, at the tile's tokens -/

/-- The tile's normalised input is the specification's. -/
theorem nrm_eq (r : Fin 256) (d : Fin 4096) :
    Loop1.nrm (Tile.col t (X0 V c t)) (Tile.col t (X1 V c t)) (X4 V c t) r d = Spec.nrm (cd V c) (sx V c) (rs V c) (tok t r) d := by
  unfold Loop1.nrm Spec.nrm
  rw [x4_eq, col0_eq, col1_eq]
/-- So is its gradient of the normalised, gained input, -/
theorem dxh_eq (r : Fin 256) (d : Fin 4096) :
    Loop1.dxh (X3 V c t) (X5 V c t) (X6 V c t) r d = Spec.dxh (wc V c) (ws V c) (dq V c) (tok t r) d := by
  unfold Loop1.dxh Spec.dxh
  simp only [x3_eq, x5_eq, x6_eq]
/-- and that times the gain. -/
theorem gv_eq (r : Fin 256) (d : Fin 4096) :
    Loop1.gv (X2 V c t) (X3 V c t) (X5 V c t) (X6 V c t) r d = Spec.gv (ga V c) (wc V c) (ws V c) (dq V c) (tok t r) d := by
  unfold Loop1.gv Spec.gv
  rw [dxh_eq, x2_eq]

/-- The input gradient's block of a point. -/
theorem after7 (r : Fin 256) (d : Fin 4096) :
    (outsAt0 V c t.val t.isLt).1 (ix2 r d) = Spec.DX (cd V c) (sx V c) (rs V c) (ga V c) (wc V c) (ws V c) (dq V c) (tok t r) d := by
  have e : (outsAt0 V c t.val t.isLt).1 (ix2 r d) = Loop1.T8 (Tile.col t (X0 V c t)) (Tile.col t (X1 V c t)) (X2 V c t) (X3 V c t) (X4 V c t) (X5 V c t) (X6 V c t) (ix2 r d) := by
    by_cases h : t.val % 48 = 0
    · rw [outsAt0_A V c t h]
      exact Tile.outA7 ..
    · rw [outsAt0_B V c t h]
      exact Tile.outB7 ..
  rw [e]
  unfold Loop1.T8 Spec.DX
  simp only [ix2_0, ix2_1, gv_eq, nrm_eq, col1_eq]

/-- The transposed scaled activations' block of a point. -/
theorem after8 (d : Fin 4096) (r : Fin 256) :
    (outsAt0 V c t.val t.isLt).2.1 (ix2 d r) = Spec.nrm (cd V c) (sx V c) (rs V c) (tok t r) d * ga V c d := by
  have e : (outsAt0 V c t.val t.isLt).2.1 (ix2 d r) = Loop1.T9 (Tile.col t (X0 V c t)) (Tile.col t (X1 V c t)) (X2 V c t) (X4 V c t) (ix2 d r) := by
    by_cases h : t.val % 48 = 0
    · rw [outsAt0_A V c t h]
      exact Tile.outA8 ..
    · rw [outsAt0_B V c t h]
      exact Tile.outB8 ..
  rw [e]
  unfold Loop1.T9
  simp only [ix2_0, ix2_1, nrm_eq, x2_eq]

/-- What a point adds to a partial row of the gain's gradient. -/
def term (t : Fin cfg0.N) (j : S8x4096.Idx) : EReal :=
  ∑ a : Fin 32, Spec.dxh (wc V c) (ws V c) (dq V c) (tok t ⟨a.val * 8 + (j 0).val, by have : (j 0).val < 8 := (j 0).isLt; omega⟩) (j 1)
    * Spec.nrm (cd V c) (sx V c) (rs V c) (tok t ⟨a.val * 8 + (j 0).val, by have : (j 0).val < 8 := (j 0).isLt; omega⟩) (j 1)

/-- A point adds its term to the partial rows. -/
theorem T10_eq (old : S8x4096.Idx → EReal) (j : S8x4096.Idx) :
    Loop1.T10 (Tile.col t (X0 V c t)) (Tile.col t (X1 V c t)) (X3 V c t) (X4 V c t) (X5 V c t) (X6 V c t) old j = old j + term V c t j := by
  unfold Loop1.T10 term
  congr 1
  exact Finset.sum_congr rfl fun a _ => congrArg₂ (· * ·) (dxh_eq V c t _ _) (nrm_eq V c t _ _)

/-- At the first point the partial rows are the point's term, -/
theorem step_A (t : Fin cfg0.N) (h : t.val % 48 = 0) (j : S8x4096.Idx) : (outsAt0 V c t.val t.isLt).2.2 j = 0 + term V c t j := by
  obtain ⟨s, d, rfl⟩ : ∃ (s : Fin 8) (d : Fin 4096), j = ix2 s d := ⟨j 0, j 1, eq_ix2 j⟩
  rw [outsAt0_A V c t h, ← T10_eq V c t (fun _ => 0)]
  exact Tile.outA9 ..

/-- and at the others the term is added to what was there. -/
theorem step_B (t : Fin cfg0.N) (h : ¬t.val % 48 = 0) (j : S8x4096.Idx) :
    (outsAt0 V c t.val t.isLt).2.2 j = (outsAt0 V c (t.val - 1) (Nat.lt_of_le_of_lt (Nat.sub_le _ _) t.isLt)).2.2 j + term V c t j := by
  obtain ⟨s, d, rfl⟩ : ∃ (s : Fin 8) (d : Fin 4096), j = ix2 s d := ⟨j 0, j 1, eq_ix2 j⟩
  rw [outsAt0_B V c t h, ← T10_eq V c t]
  exact Tile.outB9 ..

/-- A partial row of the gain's gradient, over all the points. -/
def P (s : Fin 8) (d : Fin 4096) : EReal := ∑ t : Fin cfg0.N, term V c t (ix2 s d)

/-- After the last point the partial rows are the sums over all tiles. -/
theorem after9 (h : t.val % 48 = 47) (s : Fin 8) (d : Fin 4096) : (outsAt0 V c t.val t.isLt).2.2 (ix2 s d) = P V c s d := by
  have ht := t_lt t
  have hN : cfg0.N = 48 := N_0
  refine (Pipeline.eq_sum_fin_of_reset_step_apply_last (fun n h => (outsAt0 V c n h).2.2) 48 (fun _ => (0 : EReal)) (term V c)
    (step_A V c) (step_B V c) hN.le t (by omega) (ix2 s d)).trans ?_
  rw [zero_add]
  rfl

/-! ## The arrays -/

omit t in
/-- The input gradient's array. -/
theorem arr7 : (dat0 V c).arrAt 7 cfg0.N = fun i : S12288x4096.Idx => Spec.DX (cd V c) (sx V c) (rs V c) (ga V c) (wc V c) (ws V c) (dq V c) (i 0) (i 1) := by
  refine (dat0 V c).arrAt_eq_of_covers 7 _ (by decide +kernel) fun t hf y => ?_
  have e := (idx t).2.2.2.2.2.2.2.1
  obtain ⟨r, d, rfl⟩ : ∃ (r : Fin 256) (d : Fin 4096), y = ix2 r d := ⟨y 0, y 1, eq_ix2 y⟩
  have h0 : @Eq (Fin 12288) ((((cfg0.win 7).blk t).view.emb (ix2 r d)) 0) (tok t r) := Fin.ext (by unfold tok; blk_simp [e])
  have h1 : @Eq (Fin 4096) ((((cfg0.win 7).blk t).view.emb (ix2 r d)) 1) d := Fin.ext (by blk_simp [e])
  rw [h0, h1, ← after7 V c t r d]
  blk_simp
  rw [after0_7]

omit t in
/-- The transposed scaled activations' array. -/
theorem arr8 : (dat0 V c).arrAt 8 cfg0.N = fun i : S4096x12288.Idx => Spec.nrm (cd V c) (sx V c) (rs V c) (i 1) (i 0) * ga V c (i 0) := by
  refine (dat0 V c).arrAt_eq_of_covers 8 _ (by decide +kernel) fun t hf y => ?_
  have e := (idx t).2.2.2.2.2.2.2.2.1
  obtain ⟨d, r, rfl⟩ : ∃ (d : Fin 4096) (r : Fin 256), y = ix2 d r := ⟨y 0, y 1, eq_ix2 y⟩
  have h0 : @Eq (Fin 4096) ((((cfg0.win 8).blk t).view.emb (ix2 d r)) 0) d := Fin.ext (by blk_simp [e])
  have h1 : @Eq (Fin 12288) ((((cfg0.win 8).blk t).view.emb (ix2 d r)) 1) (tok t r) := Fin.ext (by unfold tok; blk_simp [e])
  rw [h0, h1, ← after8 V c t d r]
  blk_simp
  rw [after0_8]

omit t in
/-- The array of the gain gradient's partial rows. -/
theorem arr9 : (dat0 V c).arrAt 9 cfg0.N = fun i : S8x4096.Idx => P V c (i 0) (i 1) := by
  refine (dat0 V c).arrAt_eq_of_covers 9 _ (by decide +kernel) fun t hf y => ?_
  have e := (idx t).2.2.2.2.2.2.2.2.2
  obtain ⟨s, d, rfl⟩ : ∃ (s : Fin 8) (d : Fin 4096), y = ix2 s d := ⟨y 0, y 1, eq_ix2 y⟩
  have h0 : @Eq (Fin 8) ((((cfg0.win 9).blk t).view.emb (ix2 s d)) 0) s := Fin.ext (by blk_simp [e])
  have h1 : @Eq (Fin 4096) ((((cfg0.win 9).blk t).view.emb (ix2 s d)) 1) d := Fin.ext (by blk_simp [e])
  rw [h0, h1, ← after9 V c t ((flush0_9 t).mp hf) s d]
  blk_simp
  rw [after0_9]

omit t in
/-- The eight partial rows sum to the gain's gradient. -/
theorem rows_sum (d : Fin 4096) : ∑ s : Fin 8, P V c s d = Spec.DG (cd V c) (sx V c) (rs V c) (wc V c) (ws V c) (dq V c) d := by
  have hN : cfg0.N = 48 := N_0
  unfold Spec.DG
  let f : Fin 12288 → EReal := fun q => Spec.dxh (wc V c) (ws V c) (dq V c) q d * Spec.nrm (cd V c) (sx V c) (rs V c) q d
  have e1 : ∑ q : Fin 12288, f q = ∑ t : Fin 48, ∑ r : Fin 256, f ⟨t.val * 256 + r.val, by omega⟩ :=
    (Fin.sum_mul_add_fin (L := 12288) 48 256 f (by decide)).symm
  have e2 : ∀ t : Fin 48, ∑ r : Fin 256, f ⟨t.val * 256 + r.val, by omega⟩ = ∑ a : Fin 32, ∑ s : Fin 8, f ⟨t.val * 256 + (a.val * 8 + s.val), by omega⟩ := fun t =>
    (Fin.sum_mul_add_fin (L := 256) 32 8 (fun r => f ⟨t.val * 256 + r.val, by omega⟩) (by decide)).symm
  have e3 : ∀ s : Fin 8, P V c s d = ∑ t : Fin 48, ∑ a : Fin 32, f ⟨t.val * 256 + (a.val * 8 + s.val), by omega⟩ := fun s => by
    unfold P
    refine Fintype.sum_equiv (finCongr hN) _ _ fun t => ?_
    rfl
  refine Eq.trans ?_ e1.symm
  rw [Finset.sum_congr rfl fun s _ => e3 s, Finset.sum_comm]
  refine Finset.sum_congr rfl fun t _ => ?_
  rw [e2 t, Finset.sum_comm]

end Cert.Proof.Dx
-- ==== Proof.KIReg1.lean ====
/-
   THE SECOND CALL of the kernel: its blocks, one run of the body, what its output holds after each grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the buffers' contents when a region is entered
variable (V : (c : Dev nD) → (b : Ref sig .tc) → Buf (Elt F) ((c : Thread nD τ).loc b))
/-! # REGION 1 of @main: custom_call 1, `cc1_dw` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`) — `Dat.before_in_eq_fetched`
    (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`) — `Dat.before_in_eq_fetched`
    (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 12) — by arithmetic of the point. -/
theorem hcond1_0 : ∀ t : Fin cfg1.N, cond1_0 (grid1.coords t) ↔ t.val % 12 = 0 :=
  (fun t => by
    have ht : t.val < 72 := Nat.lt_of_lt_of_eq t.isLt N_1
    have e0 : (grid1.coords t 0).val = t.val / 36 % 2 := Pipeline.Grid.coords_val t 0 (by decide) rfl
    have e1 : (grid1.coords t 1).val = t.val / 12 % 3 := Pipeline.Grid.coords_val t 1 (by decide) rfl
    have e2 : (grid1.coords t 2).val = t.val / 1 % 12 := Pipeline.Grid.coords_val t 2 (by decide) rfl
    simp only [cond1_0, e0, e1, e2]
    word_cmp
   : ∀ t : Fin grid1.N, cond1_0 (grid1.coords t) ↔ t.val % 12 = 0)

/-! ## The kernel body on any staging memrefs: a subtype the run finds -/

/-- One staging buffer of output window 2, through which its contents are stated (`View.read_writes_of_cover`: the
    choice does not matter). -/
abbrev VO1_2 : View sig .tc .vmem S2048x2048 .f32 := (Memref.whole cc1_stg2_0 : Memref sig .tc .vmem S2048x2048 .f32).view
/-- Each window's current staging memref at point `t`, spelled as the pipeline passes it (`bodyAt1`), and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x2048 .f32 := win1_2.stage (cfg1.slots t 2)
abbrev hs1_2 (t : Fin cfg1.N) : (ms1_2 t).IsWhole := hstage1_2 ((cfg1.slots t 2).cast nbuf1_2)

-- the body is long: its proof term is walked once more when the definition is stored
set_option maxHeartbeats 16000000 in
/-- What the body's stores leave in each output's staging memref, as pieces (last first) IN CASE A (`scf.if` 0 taken: points 0, 12, 24, 36, 48, 60), WITH the
    proof that on whole staging memrefs — the inputs' at their contents, the other outputs' at
    anything, the body runs to the continuation holding the inputs' as they were,
    each output's buffer with its pieces written: the functions are their skeletons,
    which `sl_exec` runs — each `scf.if` decided by the case's hypotheses `hc·`; the pieces are
    the witness that run finds (assigned when `iexact` hands the buffer to the continuation). -/
noncomputable def kernelRun1_A (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : cond1_0 i)
    (x0 : Vec F S2048x1024 .bf16) (x1 : Vec F S1024x2048 .bf16) :
    { L2 : List (View.Piece (Elt F) S2048x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1_dw i arg3 harg3 arg4 harg4 arg5 harg5) K } := by
  refine ⟨?_, fun E K => ?run⟩
  case run =>
    simp only [cc1_dw_eq_skeleton]; unfold cc1_dw_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case A's pieces for output 2 tile its block (2 stores of `S2048x2048`), so they cover it. -/
theorem cover1_A_2 (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : cond1_0 i)
    (x0 : Vec F S2048x1024 .bf16) (x1 : Vec F S1024x2048 .bf16) (y : S2048x2048.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S2048x2048.size (by sl_kernel_rfl) y

/-- What case A leaves in output 2's staging buffer: its pieces read back over junk. -/
def out1_A_2 (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : cond1_0 i)
    (x0 : Vec F S2048x1024 .bf16) (x1 : Vec F S1024x2048 .bf16) : Vec F S2048x2048 .f32 :=
  VO1_2.read (Elt F) (VO1_2.writes (Elt F) VO1_2.junk (kernelRun1_A c i arg3 harg3 arg4 harg4 arg5 harg5 hc0 x0 x1).1)

-- the body is long: its proof term is walked once more when the definition is stored
set_option maxHeartbeats 16000000 in
/-- What the body's stores leave in each output's staging memref, as pieces (last first) IN CASE B (`scf.if` 0 not taken: points 1, 2, … 71: 66 of 72), WITH the
    proof that on whole staging memrefs — the inputs' at their contents, the outputs it reads before covering (2) at their running contents `xo·`, the other outputs' at
    anything, the body runs to the continuation holding the inputs' as they were,
    each output's buffer with its pieces written: the functions are their skeletons,
    which `sl_exec` runs — each `scf.if` decided by the case's hypotheses `hc·`; the pieces are
    the witness that run finds (assigned when `iexact` hands the buffer to the continuation). -/
noncomputable def kernelRun1_B (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : ¬cond1_0 i)
    (x0 : Vec F S2048x1024 .bf16) (x1 : Vec F S1024x2048 .bf16) (xo2 : Vec F S2048x2048 .f32) :
    { L2 : List (View.Piece (Elt F) S2048x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1_dw i arg3 harg3 arg4 harg4 arg5 harg5) K } := by
  refine ⟨?_, fun E K => ?run⟩
  case run =>
    simp only [cc1_dw_eq_skeleton]; unfold cc1_dw_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case B's pieces for output 2 tile its block (1 store of `S2048x2048`), so they cover it. -/
theorem cover1_B_2 (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : ¬cond1_0 i)
    (x0 : Vec F S2048x1024 .bf16) (x1 : Vec F S1024x2048 .bf16) (xo2 : Vec F S2048x2048 .f32) (y : S2048x2048.Idx) :
    ∃ pc ∈ (kernelRun1_B c i arg3 harg3 arg4 harg4 arg5 harg5 hc0 x0 x1 xo2).1, y ∈ pc.1.set :=
  View.cover_of_tiledL (kernelRun1_B c i arg3 harg3 arg4 harg4 arg5 harg5 hc0 x0 x1 xo2).1 S2048x2048.size (by sl_kernel_rfl) y

/-- What case B leaves in output 2's staging buffer: its pieces read back over junk. -/
def out1_B_2 (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S2048x2048 .f32) (harg5 : arg5.IsWhole) (hc0 : ¬cond1_0 i)
    (x0 : Vec F S2048x1024 .bf16) (x1 : Vec F S1024x2048 .bf16) (xo2 : Vec F S2048x2048 .f32) : Vec F S2048x2048 .f32 :=
  VO1_2.read (Elt F) (VO1_2.writes (Elt F) VO1_2.junk (kernelRun1_B c i arg3 harg3 arg4 harg4 arg5 harg5 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S2048x2048 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 12 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point of case A: that case's contents. -/
theorem outsAt1_A (c : Dev nD) (t : Fin cfg1.N) (h0 : t.val % 12 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 12 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (`ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point of case B output 2's current staging buffer holds what the body left at the point before: the point is
    not the first, the buffer was not written back between (`flush1_2`), the window is live and uncut
    (`Dat.before_out_kept`). -/
theorem before1_2_B (c : Dev nD) (t : Fin cfg1.N) (h0 : ¬t.val % 12 = 0) (d) :
    (dat1 V c).before 2 t d = (outsAt1 V c (t.val - 1) (Nat.lt_of_le_of_lt (Nat.sub_le _ _) t.isLt)) := by
  have hN : t.val < 72 := lt_of_lt_of_eq t.isLt (show cfg1.N = 72 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 72 := lt_of_lt_of_eq t.isLt (show cfg1.N = 72 from N_1)
  by_cases h0 : t.val % 12 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Proof.KI

end
-- ==== Proof.Dw.lean ====
module

public import proofs.«01_k».proof.Proof.Spec
public import proofs.«01_k».proof.Proof.KIReg1
public import Idealize.ShloMosaic.Lib.Pipeline.ValueKit

@[expose] public section

set_option maxRecDepth 16384

noncomputable section

namespace Cert.Proof.Dw

open Idealize.ShloMosaic Idealize.ShloMosaic.TcCoe Idealize.ShloMosaic.Tactic
open Idealize.ShloMosaic.Pipeline (Dat Cfg Window)
open Cert.KernelIdeal Cert.KernelIdeal.Gen Cert.Proof.KI
open scoped BigOperators

/-! The second call: a product of two matrices, accumulated over twelve blocks of the contracted axis. -/

variable (V : (c : Dev nD) → (b : Ref sig .tc) → Buf (Elt Ideal) ((c : Thread nD τ).loc b)) (c : Dev nD)

/-- The left factor as the call finds it. -/
def A (d : Fin 4096) (t : Fin 12288) : EReal := V c main_v4_1 (ix2 d t)
/-- The right factor as the call finds it. -/
def B (t : Fin 12288) (k : Fin 6144) : EReal := V c main_v1 (ix2 t k)

/-- The first step starts from zero. -/
theorem pay1_apply (j : S2048x2048.Idx) : k1_pay1 (F := Ideal) j = 0 := by
  pointwise [k1_pay1]

/-- One step adds the product of the point's blocks. -/
theorem pay2_apply (a : Vec Ideal S2048x2048 .f32) (x : Vec Ideal S2048x1024 .bf16) (y : Vec Ideal S1024x2048 .bf16) (r j : Fin 2048) :
    k1_pay2 (F := Ideal) a x y (ix2 r j) = a (ix2 r j) + ∑ l : Fin 1024, x (ix2 r l) * y (ix2 l j) := by
  pointwise [k1_pay2]

/-- The left block of a point. -/
def X (t : Fin cfg1.N) : S2048x1024.Idx → EReal := iblk1 V c 0 t
/-- The right block of a point. -/
def Y (t : Fin cfg1.N) : S1024x2048.Idx → EReal := iblk1 V c 1 t

/-- What one point adds. -/
def term (t : Fin cfg1.N) (j : S2048x2048.Idx) : EReal :=
  ∑ l : Fin 1024, X V c t (ix2 (j 0) l) * Y V c t (ix2 l (j 1))

/-- Which block of each array a grid point works on. -/
theorem idx : ∀ t : Fin cfg1.N, win1_0.index t = ![t.val / 36, t.val % 12] ∧ win1_1.index t = ![t.val % 12, t.val / 12 % 3]
    ∧ win1_2.index t = ![t.val / 36, t.val / 12 % 3] := by
  decide +kernel

/-- At the first of a block's twelve points the block is the point's product, -/
theorem step_A (t : Fin cfg1.N) (h : t.val % 12 = 0) (j : S2048x2048.Idx) : outsAt1 V c t.val t.isLt j = 0 + term V c t j := by
  rw [outsAt1_A V c t h]
  frame_out
  obtain ⟨r, k, rfl⟩ : ∃ r k, j = ix2 r k := ⟨j 0, j 1, eq_ix2 j⟩
  rw [pay2_apply, pay1_apply]
  rfl

/-- and at the others the product is added to what was there. -/
theorem step_B (t : Fin cfg1.N) (h : ¬t.val % 12 = 0) (j : S2048x2048.Idx) :
    outsAt1 V c t.val t.isLt j = outsAt1 V c (t.val - 1) (Nat.lt_of_le_of_lt (Nat.sub_le _ _) t.isLt) j + term V c t j := by
  rw [outsAt1_B V c t h]
  frame_out
  obtain ⟨r, k, rfl⟩ : ∃ r k, j = ix2 r k := ⟨j 0, j 1, eq_ix2 j⟩
  rw [pay2_apply]
  rfl

/-- A point's term in the arrays' own coordinates. -/
theorem term_eq (t : Fin cfg1.N) (ht : t.val < 72) (r k : Fin 2048) :
    term V c t (ix2 r k) = ∑ l : Fin 1024, A V c ⟨t.val / 36 * 2048 + r.val, by omega⟩ ⟨t.val % 12 * 1024 + l.val, by omega⟩
      * B V c ⟨t.val % 12 * 1024 + l.val, by omega⟩ ⟨t.val / 12 % 3 * 2048 + k.val, by omega⟩ := by
  unfold term A B X Y
  refine Finset.sum_congr rfl fun l _ => ?_
  congr 1
  · blk_ext [iblk1, (idx t).1]
  · blk_ext [iblk1, (idx t).2.1]

/-- One element of the product. -/
def G (d : Fin 4096) (k : Fin 6144) : EReal := ∑ t : Fin 12288, A V c d t * B V c t k

/-- The accumulator's block at the last point of a run of twelve is a block of the product. -/
theorem after_eq (t : Fin cfg1.N) (hN : t.val < 72) (hm : t.val % 12 = 11) (r k : Fin 2048) :
    outsAt1 V c t.val t.isLt (ix2 r k) = G V c ⟨t.val / 36 * 2048 + r.val, by omega⟩ ⟨t.val / 12 % 3 * 2048 + k.val, by omega⟩ := by
  refine (Pipeline.eq_sum_fin_of_reset_step_apply_of_flush (fun n h => outsAt1 V c n h) 12 (fun _ => (0 : EReal)) (term V c)
    (step_A V c) (step_B V c) t hm (ix2 r k)).trans ?_
  rw [zero_add]
  refine Eq.trans ?_ (Fin.sum_mul_add_fin (L := 12288) 12 1024 (fun q => A V c ⟨t.val / 36 * 2048 + r.val, by omega⟩ q
    * B V c q ⟨t.val / 12 % 3 * 2048 + k.val, by omega⟩) (by decide))
  refine Finset.sum_congr rfl fun s _ => ?_
  have hs := s.isLt
  rw [term_eq V c _ (by dsimp only; omega) r k]
  refine Finset.sum_congr rfl fun l _ => ?_
  have e1 : (12 * (t.val / 12) + s.val) / 36 = t.val / 36 := by omega
  have e2 : (12 * (t.val / 12) + s.val) % 12 = s.val := by omega
  have e3 : (12 * (t.val / 12) + s.val) / 12 % 3 = t.val / 12 % 3 := by omega
  simp only [e1, e2, e3]

/-- The call's result is the product. -/
theorem arr : (dat1 V c).arrAt 2 cfg1.N = fun i => G V c (i 0) (i 1) := by
  refine (dat1 V c).arrAt_eq_of_covers 2 _ (by decide +kernel) fun t hf y => ?_
  have hm : t.val % 12 = 11 := (flush1_2 t).mp hf
  have hN : t.val < 72 := lt_of_lt_of_eq t.isLt (show cfg1.N = 72 from N_1)
  have e := (idx t).2.2
  obtain ⟨r, k, rfl⟩ : ∃ (r k : Fin 2048), y = ix2 r k := ⟨y 0, y 1, eq_ix2 y⟩
  have h0 : @Eq (Fin 4096) ((((cfg1.win 2).blk t).view.emb (ix2 r k)) 0) ⟨t.val / 36 * 2048 + r.val, by omega⟩ := Fin.ext (by blk_simp [e])
  have h1 : @Eq (Fin 6144) ((((cfg1.win 2).blk t).view.emb (ix2 r k)) 1) ⟨t.val / 12 % 3 * 2048 + k.val, by omega⟩ := Fin.ext (by blk_simp [e])
  rw [h0, h1, ← after_eq V c t hN hm r k]
  blk_simp
  rw [after1_2]

end Cert.Proof.Dw
-- ==== Proof.KIMain.lean ====
/-
   THE WHOLE RUN of the kernel: the host lines, the two calls in order, and the frame claim. -/
module

public import proofs.«01_k».proof.Proof.KIReg0
public import proofs.«01_k».proof.Proof.KIReg1

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (`θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch
    (`after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
/-- The first host lines write only their own results. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_cst, main_v7]
/-- The last host lines write only their own results. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At the start an argument holds what the memory holds. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The first host lines leave the arguments. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`) (region 1's entry). -/
def W2 (c : Dev nD) : Valuation τ sig (Elt F) :=
  Pipeline.withArrays spec0 c (W1 m ρ c) fun w => (dat0 (V1 m ρ) c).arrAt w cfg0.N
/-- After the first call its arrays hold what its grid's points leave. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves every buffer that is none of its arrays. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The first call leaves the arguments. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The same for every buffer that is none of its arrays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (`withArrays`). -/
def W3 (c : Dev nD) : Valuation τ sig (Elt F) :=
  Pipeline.withArrays spec1 c (W2 m ρ c) fun w => (dat1 (V2 m ρ) c).arrAt w cfg1.N
/-- After the second call its arrays hold what its grid's points leave. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second call leaves every buffer that is none of its arrays. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The second call leaves the arguments. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The same for every buffer that is none of its arrays. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The whole run leaves the arguments. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of the program terminates, nothing faulting; every final state holds in each buffer of the
    TensorCores the contents that the fold of the host lines and the two calls computes (`W4`), and every semaphore counter
    is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the program terminates from any memory with zero counters, nothing faulting, its argument arrays as launched
    and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c)⟩, h.2⟩) (run_all m ρ)

end Cert.Proof.KI

end
-- ==== Proof.Val.lean ====
/-
   THE KERNEL'S RESULTS over the extended reals: what the whole run leaves in the three result arrays, in the specification's terms. -/
module

public import proofs.«01_k».proof.Proof.Dx
public import proofs.«01_k».proof.Proof.Dw
public import proofs.«01_k».proof.Proof.KIMain

@[expose] public section

set_option maxRecDepth 16384

noncomputable section

namespace Cert.Proof.Val

open Idealize.ShloMosaic Idealize.ShloMosaic.TcCoe Idealize.ShloMosaic.Tactic
open Idealize.SL.Sem
open Cert.KernelIdeal Cert.KernelIdeal.Gen Cert.Proof.KI Cert.Proof.Tok
open scoped BigOperators

variable (m : (ℓ : Loc nD τ sig) → Buf (Elt Ideal) ℓ) (ρ : Dev nD → PrngReg) (c : Dev nD)

/-! ## The arguments, by token -/

/-- The input codes, a row to a token. -/
def cd : Fin 12288 → Fin 4096 → EReal := tok3 fun b s d => m ((c : Thread nD τ).loc main_arg0) (ix3 b s d)
/-- The input scale of each token. -/
def sx : Fin 12288 → EReal := tok2 fun b s => m ((c : Thread nD τ).loc main_arg1) (ix2 b s)
/-- The reciprocal root mean square of each token. -/
def rs : Fin 12288 → EReal := tok2 fun b s => m ((c : Thread nD τ).loc main_arg2) (ix2 b s)
/-- The gain. -/
def ga (d : Fin 4096) : EReal := m ((c : Thread nD τ).loc main_arg3) (ix1 d)
/-- The weight codes. -/
def wc (d : Fin 4096) (k : Fin 6144) : EReal := m ((c : Thread nD τ).loc main_arg4) (ix2 d k)
/-- The weight scale of each output column. -/
def ws (k : Fin 6144) : EReal := m ((c : Thread nD τ).loc main_arg5) (ix1 k)
/-- The output gradient, a row to a token. -/
def dq : Fin 12288 → Fin 6144 → EReal := tok3 fun b s k => m ((c : Thread nD τ).loc main_arg6) (ix3 b s k)

/-! ## The first call finds the arguments, some reshaped -/

/-- The codes flattened. -/
theorem cd_eq : Dx.cd (V1 m ρ) c = cd m c := by
  funext q d
  unfold Dx.cd cd tok3
  show StableHlo.after hostOps0 (W0 m ρ c) (Proc.devRef .tc main_v0) (ix2 q d) = _
  entry_read
  pointwise
/-- The output gradient flattened. -/
theorem dq_eq : Dx.dq (V1 m ρ) c = dq m c := by
  funext q k
  unfold Dx.dq dq tok3
  show StableHlo.after hostOps0 (W0 m ρ c) (Proc.devRef .tc main_v1) (ix2 q k) = _
  entry_read
  pointwise
/-- The gain as a row. -/
theorem ga_eq : Dx.ga (V1 m ρ) c = ga m c := by
  funext d
  unfold Dx.ga ga
  show StableHlo.after hostOps0 (W0 m ρ c) (Proc.devRef .tc main_v2) (ix2 0 d) = _
  entry_read
  pointwise
/-- The weight scales as a row. -/
theorem ws_eq : Dx.ws (V1 m ρ) c = ws m c := by
  funext k
  unfold Dx.ws ws
  show StableHlo.after hostOps0 (W0 m ρ c) (Proc.devRef .tc main_v3) (ix2 0 k) = _
  entry_read
  pointwise
/-- The input scales as they are. -/
theorem sx_eq : Dx.sx (V1 m ρ) c = sx m c := by
  unfold Dx.sx sx
  rw [show V1 m ρ c main_arg1 = m ((c : Thread nD τ).loc main_arg1) from W1_args m ρ c main_arg1 (by decide)]
/-- The reciprocal root mean squares as they are. -/
theorem rs_eq : Dx.rs (V1 m ρ) c = rs m c := by
  unfold Dx.rs rs
  rw [show V1 m ρ c main_arg2 = m ((c : Thread nD τ).loc main_arg2) from W1_args m ρ c main_arg2 (by decide)]
/-- The weight codes as they are. -/
theorem wc_eq : Dx.wc (V1 m ρ) c = wc m c := by
  unfold Dx.wc wc
  rw [show V1 m ρ c main_arg4 = m ((c : Thread nD τ).loc main_arg4) from W1_args m ρ c main_arg4 (by decide)]

/-! ## The three results -/

/-- The first call's input gradient, by token. -/
theorem v4_0 (q : Fin 12288) (d : Fin 4096) :
    W3 m ρ c (Proc.devRef .tc main_v4_0) (ix2 q d) = Spec.DX (cd m c) (sx m c) (rs m c) (ga m c) (wc m c) (ws m c) (dq m c) q d := by
  rw [W3_of m ρ c main_v4_0 (by decide +kernel)]
  refine (congrFun (W2_arr m ρ c 7) (ix2 q d)).trans ?_
  rw [Dx.arr7, cd_eq, sx_eq, rs_eq, ga_eq, wc_eq, ws_eq, dq_eq]
  rfl

/-- The gain gradient's partial rows. -/
theorem v4_2 (s : Fin 8) (d : Fin 4096) : W3 m ρ c (Proc.devRef .tc main_v4_2) (ix2 s d) = Dx.P (V1 m ρ) c s d := by
  rw [W3_of m ρ c main_v4_2 (by decide +kernel)]
  refine (congrFun (W2_arr m ρ c 9) (ix2 s d)).trans ?_
  rw [Dx.arr9]
  rfl

/-- Result 1: the input's gradient. -/
theorem res0 : W4 m ρ c (Proc.devRef .tc main_v6) = fun i : S4x3072x4096.Idx =>
    Spec.DX (cd m c) (sx m c) (rs m c) (ga m c) (wc m c) (ws m c) (dq m c) ⟨(i 0).val * 3072 + (i 1).val, by have := (i 0).isLt; have := (i 1).isLt; simp at *; omega⟩ (i 2) := by
  funext i
  obtain ⟨b, s, d, rfl⟩ : ∃ (b : Fin 4) (s : Fin 3072) (d : Fin 4096), i = ix3 b s d := ⟨i 0, i 1, i 2, eq_ix3 i⟩
  refine Eq.trans ?_ (v4_0 m ρ c ⟨b.val * 3072 + s.val, by omega⟩ d)
  show StableHlo.after hostOps2 (W3 m ρ c) (Proc.devRef .tc main_v6) (ix3 b s d) = _
  entry_read
  pointwise

/-- Result 2: the weight's gradient. -/
theorem res1 : W4 m ρ c (Proc.devRef .tc main_v5) = fun i : S4096x6144.Idx => Spec.DW (cd m c) (sx m c) (rs m c) (ga m c) (dq m c) (i 0) (i 1) := by
  rw [W4_of m ρ c main_v5 (by decide)]
  refine (W3_arr m ρ c 2).trans ?_
  rw [Dw.arr]
  funext i
  obtain ⟨d, k, rfl⟩ : ∃ (d : Fin 4096) (k : Fin 6144), i = ix2 d k := ⟨i 0, i 1, eq_ix2 i⟩
  have eA : ∀ t, Dw.A (V2 m ρ) c d t = Spec.nrm (cd m c) (sx m c) (rs m c) t d * ga m c d := fun t => by
    unfold Dw.A
    refine (congrFun (W2_arr m ρ c 8) (ix2 d t)).trans ?_
    rw [Dx.arr8, cd_eq, sx_eq, rs_eq, ga_eq]
    rfl
  have eB : ∀ t, Dw.B (V2 m ρ) c t k = dq m c t k := fun t => by
    rw [← dq_eq m ρ c]
    unfold Dw.B Dx.dq
    exact congrFun (W2_of m ρ c main_v1 (by decide +kernel)) (ix2 t k)
  show Dw.G (V2 m ρ) c d k = Spec.DW (cd m c) (sx m c) (rs m c) (ga m c) (dq m c) d k
  unfold Dw.G Spec.DW
  exact Finset.sum_congr rfl fun t _ => congrArg₂ (· * ·) (eA t) (eB t)

/-- Result 3: the gain's gradient. -/
theorem res2 : W4 m ρ c (Proc.devRef .tc main_v7) = fun i : S4096.Idx => Spec.DG (cd m c) (sx m c) (rs m c) (wc m c) (ws m c) (dq m c) (i 0) := by
  funext i
  obtain ⟨d, rfl⟩ : ∃ d : Fin 4096, i = ix1 d := ⟨i 0, eq_ix1 i⟩
  have e := Dx.rows_sum (V1 m ρ) c d
  rw [cd_eq, sx_eq, rs_eq, wc_eq, ws_eq, dq_eq] at e
  refine Eq.trans ?_ e
  show StableHlo.after hostOps2 (W3 m ρ c) (Proc.devRef .tc main_v7) (ix1 d) = _
  entry_read
  pointwise
  exact @Finset.sum_congr (Fin 8) EReal _ _ _ _ _ rfl fun s _ => v4_2 m ρ c s d

end Cert.Proof.Val
-- ==== Proof.RefPay.lean ====
module

public import proofs.«01_k».proof.Proof.Spec
public import proofs.«01_k».proof.Proof.Gen.ReferenceIdeal.Frame
public import Idealize.ShloMosaic.Lib.Pipeline.Value

@[expose] public section

set_option maxRecDepth 16384

noncomputable section

namespace Cert.Proof.RefPay

open Idealize.ShloMosaic
open Cert.ReferenceIdeal Cert.ReferenceIdeal.Gen
open scoped BigOperators

variable (x0 : Vec Ideal S12288x4096 .fp8e4m3) (x1 x2 : Vec Ideal S12288x1 .f32) (x3 : Vec Ideal S1x4096 .f32)
  (x4 : Vec Ideal S4096x6144 .fp8e4m3) (x5 : Vec Ideal S1x6144 .f32) (x6 : Vec Ideal S12288x6144 .bf16)

/-- The normalised input. -/
theorem pay5_apply (t : Fin 12288) (d : Fin 4096) :
    k0_pay5 (F := Ideal) x2 x0 x1 (ix2 t d) = Spec.nrm (fun t d => x0 (ix2 t d)) (fun t => x1 (ix2 t 0)) (fun t => x2 (ix2 t 0)) t d := by
  pointwise [k0_pay5, k0_pay2]
  rfl

/-- The gradient of the normalised, gained input. -/
theorem pay7_apply (t : Fin 12288) (d : Fin 4096) :
    k0_pay7 (F := Ideal) x6 x4 x5 (ix2 t d) = Spec.dxh (fun d k => x4 (ix2 d k)) (fun k => x5 (ix2 0 k)) (fun t k => x6 (ix2 t k)) t d := by
  pointwise [k0_pay7, k0_pay4]
  rfl

/-- The weight's gradient. -/
theorem pay6_apply (d : Fin 4096) (k : Fin 6144) :
    k0_pay6 (F := Ideal) x2 x3 x6 x0 x1 (ix2 d k) = Spec.DW (fun t d => x0 (ix2 t d)) (fun t => x1 (ix2 t 0)) (fun t => x2 (ix2 t 0))
      (fun d => x3 (ix2 0 d)) (fun t k => x6 (ix2 t k)) d k := by
  pointwise [k0_pay6, k0_pay4, k0_pay3]
  simp only [pay5_apply]
  rfl

/-- The gain's gradient. -/
theorem pay8_apply (d : Fin 4096) :
    k0_pay8 (F := Ideal) x2 x6 x0 x1 x4 x5 (ix1 d) = Spec.DG (fun t d => x0 (ix2 t d)) (fun t => x1 (ix2 t 0)) (fun t => x2 (ix2 t 0))
      (fun d k => x4 (ix2 d k)) (fun k => x5 (ix2 0 k)) (fun t k => x6 (ix2 t k)) d := by
  pointwise [k0_pay8]
  simp only [pay5_apply, pay7_apply]
  rfl

/-- The gradient times the gain. -/
theorem pay9_apply (t : Fin 12288) (d : Fin 4096) :
    k0_pay9 (F := Ideal) x3 x6 x4 x5 (ix2 t d) = Spec.gv (fun d => x3 (ix2 0 d)) (fun d k => x4 (ix2 d k)) (fun k => x5 (ix2 0 k)) (fun t k => x6 (ix2 t k)) t d := by
  pointwise [k0_pay9, k0_pay3]
  rw [pay7_apply]
  rfl

/-- The sum under the mean. -/
theorem pay10_apply (t : Fin 12288) :
    k0_pay10 (F := Ideal) x2 x3 x6 x0 x1 x4 x5 (ix2 t 0) = ∑ e : Fin 4096, k0_pay9 (F := Ideal) x3 x6 x4 x5 (ix2 t e) * k0_pay5 (F := Ideal) x2 x0 x1 (ix2 t e) := by
  pointwise [k0_pay10]

/-- The input's gradient from its parts, with batch and sequence axes. -/
theorem pay1_apply (v1 : FVec Ideal S12288x1 .f32) (v14 v32 : FVec Ideal S12288x4096 .f32) (v35 : FVec Ideal S12288x1 .f32) (z : EReal) (b : Fin 4) (s : Fin 3072) (d : Fin 4096) :
    k0_pay1 (F := Ideal) v1 v14 v32 v35 z (ix3 b s d) = v1 (ix2 ⟨b.val * 3072 + s.val, by omega⟩ 0)
      * (v32 (ix2 ⟨b.val * 3072 + s.val, by omega⟩ d) - v14 (ix2 ⟨b.val * 3072 + s.val, by omega⟩ d) * Ideal.div (v35 (ix2 ⟨b.val * 3072 + s.val, by omega⟩ 0)) z) := by
  pointwise [k0_pay1]

/-- The reference's input gradient. -/
theorem out7_apply (b : Fin 4) (s : Fin 3072) (d : Fin 4096) :
    out0_7 (F := Ideal) x0 x1 x2 x3 x4 x5 x6 (ix3 b s d) = Spec.DX (fun t d => x0 (ix2 t d)) (fun t => x1 (ix2 t 0)) (fun t => x2 (ix2 t 0))
      (fun d => x3 (ix2 0 d)) (fun d k => x4 (ix2 d k)) (fun k => x5 (ix2 0 k)) (fun t k => x6 (ix2 t k)) ⟨b.val * 3072 + s.val, by omega⟩ d := by
  unfold out0_7
  have e : ∀ z, k0_pay2 (F := Ideal) x2 z = x2 z := fun z => by pointwise [k0_pay2]
  rw [View.canon_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]
  rw [pay1_apply, pay9_apply, pay5_apply, pay10_apply, e]
  simp only [pay9_apply, pay5_apply]
  unfold Spec.DX
  rw [← Spec.div_4096]
  rfl

/-- The reference's weight gradient. -/
theorem out8_apply (d : Fin 4096) (k : Fin 6144) :
    out0_8 (F := Ideal) x0 x1 x2 x3 x4 x5 x6 (ix2 d k) = Spec.DW (fun t d => x0 (ix2 t d)) (fun t => x1 (ix2 t 0)) (fun t => x2 (ix2 t 0))
      (fun d => x3 (ix2 0 d)) (fun t k => x6 (ix2 t k)) d k := by
  unfold out0_8
  rw [View.canon_unit_zero (by funext a; fin_cases a <;> rfl)]
  repeat rw [View.ld_unit_zero (by funext a; fin_cases a <;> rfl)]
  exact pay6_apply x0 x1 x2 x3 x6 d k

/-- The reference's gain gradient. -/
theorem out9_apply (d : Fin 4096) :
    out0_9 (F := Ideal) x0 x1 x2 x3 x4 x5 x6 (ix1 d) = Spec.DG (fun t d => x0 (ix2 t d)) (fun t => x1 (ix2 t 0)) (fun t => x2 (ix2 t 0))
      (fun d k => x4 (ix2 d k)) (fun k => x5 (ix2 0 k)) (fun t k => x6 (ix2 t k)) d := by
  unfold out0_9
  rw [View.canon_unit_zero (by funext a; fin_cases a <;> rfl)]
  repeat rw [View.ld_unit_zero (by funext a; fin_cases a <;> rfl)]
  exact pay8_apply x0 x1 x2 x4 x5 x6 d

end Cert.Proof.RefPay
-- ==== Proof.RefArr.lean ====
module

public import proofs.«01_k».proof.Proof.RefPay
public import proofs.«01_k».proof.Proof.Tok
public import proofs.«01_k».proof.Proof.Gen.ReferenceIdeal.Value
public import Idealize.ShloMosaic.Lib.Pipeline.ValueKit

@[expose] public section

set_option maxRecDepth 16384

noncomputable section

namespace Cert.Proof.RefArr

open Idealize.ShloMosaic Idealize.ShloMosaic.TcCoe Idealize.ShloMosaic.Tactic
open Idealize.ShloMosaic.Pipeline (Dat Cfg Window)
open Cert.ReferenceIdeal Cert.ReferenceIdeal.Gen Cert.Proof.Tok
open scoped BigOperators

variable (m : (ℓ : Loc nD τ sig) → Buf (Elt Ideal) ℓ) (c : Dev nD)

/-! The reference's three results in the arguments' own coordinates. -/

/-- The arguments: activation codes, activation scales, reciprocal deviations, gain, weight codes, weight scales, incoming gradient. -/
def cd : Fin 12288 → Fin 4096 → EReal := tok3 fun b s d => m ((c : Thread nD τ).loc main_arg0) (ix3 b s d)
def sx : Fin 12288 → EReal := tok2 fun b s => m ((c : Thread nD τ).loc main_arg1) (ix2 b s)
def rs : Fin 12288 → EReal := tok2 fun b s => m ((c : Thread nD τ).loc main_arg2) (ix2 b s)
def ga (d : Fin 4096) : EReal := m ((c : Thread nD τ).loc main_arg3) (ix1 d)
def wc (d : Fin 4096) (k : Fin 6144) : EReal := m ((c : Thread nD τ).loc main_arg4) (ix2 d k)
def ws (k : Fin 6144) : EReal := m ((c : Thread nD τ).loc main_arg5) (ix1 k)
def dq : Fin 12288 → Fin 6144 → EReal := tok3 fun b s k => m ((c : Thread nD τ).loc main_arg6) (ix3 b s k)

def X0 (t : Fin cfg0.N) : Vec Ideal S12288x4096 .fp8e4m3 := iblk m c 0 t
def X1 (t : Fin cfg0.N) : Vec Ideal S12288x1 .f32 := iblk m c 1 t
def X2 (t : Fin cfg0.N) : Vec Ideal S12288x1 .f32 := iblk m c 2 t
def X3 (t : Fin cfg0.N) : Vec Ideal S1x4096 .f32 := iblk m c 3 t
def X4 (t : Fin cfg0.N) : Vec Ideal S4096x6144 .fp8e4m3 := iblk m c 4 t
def X5 (t : Fin cfg0.N) : Vec Ideal S1x6144 .f32 := iblk m c 5 t
def X6 (t : Fin cfg0.N) : Vec Ideal S12288x6144 .bf16 := iblk m c 6 t

/-- Every block is the whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0]
    ∧ win0_9.index t = ![0] := by
  decide +kernel

variable (t : Fin cfg0.N)

omit t in
/-- The codes with batch and sequence flattened. -/
theorem v0_eq (q : Fin 12288) (d : Fin 4096) : V m c main_v0 (ix2 q d) = cd m c q d := by
  unfold cd tok3
  entry_read
  pointwise
/-- What the call reads of them. -/
theorem x0_eq (q : Fin 12288) (d : Fin 4096) : X0 m c t (ix2 q d) = cd m c q d := by
  refine Eq.trans ?_ (v0_eq m c q d)
  unfold X0
  blk_ext [iblk, (idx t).1]
omit t in
/-- The input scales flattened. -/
theorem v1_eq (q : Fin 12288) : V m c main_v1 (ix2 q 0) = sx m c q := by
  unfold sx tok2
  entry_read
  pointwise
/-- What the call reads of them. -/
theorem x1_eq (q : Fin 12288) : X1 m c t (ix2 q 0) = sx m c q := by
  refine Eq.trans ?_ (v1_eq m c q)
  unfold X1
  blk_ext [iblk, (idx t).2.1]
omit t in
/-- The reciprocal root mean squares flattened. -/
theorem v2_eq (q : Fin 12288) : V m c main_v2 (ix2 q 0) = rs m c q := by
  unfold rs tok2
  entry_read
  pointwise
/-- What the call reads of them. -/
theorem x2_eq (q : Fin 12288) : X2 m c t (ix2 q 0) = rs m c q := by
  refine Eq.trans ?_ (v2_eq m c q)
  unfold X2
  blk_ext [iblk, (idx t).2.2.1]
omit t in
/-- The gain as a row. -/
theorem v3_eq (d : Fin 4096) : V m c main_v3 (ix2 0 d) = ga m c d := by
  unfold ga
  entry_read
  pointwise
/-- What the call reads of it. -/
theorem x3_eq (d : Fin 4096) : X3 m c t (ix2 0 d) = ga m c d := by
  refine Eq.trans ?_ (v3_eq m c d)
  unfold X3
  blk_ext [iblk, (idx t).2.2.2.1]
omit t in
/-- The weight scales as a row. -/
theorem v5_eq (k : Fin 6144) : V m c main_v4 (ix2 0 k) = ws m c k := by
  unfold ws
  entry_read
  pointwise
/-- What the call reads of them. -/
theorem x5_eq (k : Fin 6144) : X5 m c t (ix2 0 k) = ws m c k := by
  refine Eq.trans ?_ (v5_eq m c k)
  unfold X5
  blk_ext [iblk, (idx t).2.2.2.2.2.1]
omit t in
/-- The output gradient flattened. -/
theorem v6_eq (q : Fin 12288) (k : Fin 6144) : V m c main_v5 (ix2 q k) = dq m c q k := by
  unfold dq tok3
  entry_read
  pointwise
/-- What the call reads of it. -/
theorem x6_eq (q : Fin 12288) (k : Fin 6144) : X6 m c t (ix2 q k) = dq m c q k := by
  refine Eq.trans ?_ (v6_eq m c q k)
  unfold X6
  blk_ext [iblk, (idx t).2.2.2.2.2.2.1]
/-- What the call reads of the weight codes. -/
theorem x4_eq (d : Fin 4096) (k : Fin 6144) : X4 m c t (ix2 d k) = wc m c d k := by
  unfold X4 wc
  blk_ext [iblk, (idx t).2.2.2.2.1]

omit t in
/-- The input gradient's array is the specification's, of the arguments. -/
theorem arr7 : (dats m 0 c).arrAt 7 cfg0.N = fun i : S4x3072x4096.Idx =>
    Spec.DX (cd m c) (sx m c) (rs m c) (ga m c) (wc m c) (ws m c) (dq m c) ⟨(i 0).val * 3072 + (i 1).val, by have := (i 0).isLt; have := (i 1).isLt; simp at *; omega⟩ (i 2) := by
  refine (dats m 0 c).arrAt_eq_of_covers 7 _ (by decide +kernel) fun t hf y => ?_
  have e := (idx t).2.2.2.2.2.2.2.1
  obtain ⟨b, s, d, rfl⟩ : ∃ (b : Fin 4) (s : Fin 3072) (d : Fin 4096), y = ix3 b s d := ⟨y 0, y 1, y 2, eq_ix3 y⟩
  have h0 : (((cfg0.win 7).blk t).view.emb (ix3 b s d)) = ix3 b s d := by
    funext a; fin_cases a <;> exact Fin.ext (by blk_simp [e])
  rw [h0]
  blk_simp
  rw [after0_7]
  refine (RefPay.out7_apply (X0 m c t) (X1 m c t) (X2 m c t) (X3 m c t) (X4 m c t) (X5 m c t) (X6 m c t) b s d).trans ?_
  simp only [x0_eq, x1_eq, x2_eq, x3_eq, x4_eq, x5_eq, x6_eq]
  rfl

omit t in
/-- The weight gradient's array is the specification's. -/
theorem arr8 : (dats m 0 c).arrAt 8 cfg0.N = fun i : S4096x6144.Idx => Spec.DW (cd m c) (sx m c) (rs m c) (ga m c) (dq m c) (i 0) (i 1) := by
  refine (dats m 0 c).arrAt_eq_of_covers 8 _ (by decide +kernel) fun t hf y => ?_
  have e := (idx t).2.2.2.2.2.2.2.2.1
  obtain ⟨d, k, rfl⟩ : ∃ (d : Fin 4096) (k : Fin 6144), y = ix2 d k := ⟨y 0, y 1, eq_ix2 y⟩
  have h0 : (((cfg0.win 8).blk t).view.emb (ix2 d k)) = ix2 d k := by
    funext a; fin_cases a <;> exact Fin.ext (by blk_simp [e])
  rw [h0]
  blk_simp
  rw [after0_8]
  refine (RefPay.out8_apply (X0 m c t) (X1 m c t) (X2 m c t) (X3 m c t) (X4 m c t) (X5 m c t) (X6 m c t) d k).trans ?_
  simp only [x0_eq, x1_eq, x2_eq, x3_eq, x6_eq]
  rfl

omit t in
/-- The gain gradient's array is the specification's. -/
theorem arr9 : (dats m 0 c).arrAt 9 cfg0.N = fun i : S4096.Idx => Spec.DG (cd m c) (sx m c) (rs m c) (wc m c) (ws m c) (dq m c) (i 0) := by
  refine (dats m 0 c).arrAt_eq_of_covers 9 _ (by decide +kernel) fun t hf y => ?_
  have e := (idx t).2.2.2.2.2.2.2.2.2
  obtain ⟨d, rfl⟩ : ∃ (d : Fin 4096), y = ix1 d := ⟨y 0, eq_ix1 y⟩
  have h0 : (((cfg0.win 9).blk t).view.emb (ix1 d)) = ix1 d := by
    funext a; fin_cases a; exact Fin.ext (by blk_simp [e])
  rw [h0]
  blk_simp
  rw [after0_9]
  refine (RefPay.out9_apply (X0 m c t) (X1 m c t) (X2 m c t) (X3 m c t) (X4 m c t) (X5 m c t) (X6 m c t) d).trans ?_
  simp only [x0_eq, x1_eq, x2_eq, x4_eq, x5_eq, x6_eq]
  rfl

end Cert.Proof.RefArr
-- ==== Proof.Alg.lean ====
/-
   THE VALUE CLAIM: from memories that agree on the seven arguments, the kernel and the reference end with equal results over the extended reals. -/
module

public import proofs.«01_k».proof.Defs
public import proofs.«01_k».proof.Proof.Val
public import proofs.«01_k».proof.Proof.RefArr

@[expose] public section

set_option maxRecDepth 16384

noncomputable section

namespace Cert.Proof.Alg

open Idealize.ShloMosaic Idealize.ShloMosaic.TcCoe Idealize.ShloMosaic.Tactic
open Idealize.SL.Sem
open Cert.Proof.KI

/-- Kernel and reference give the same three gradients. -/
theorem algebraic [Cert.KernelIdeal.Facts] [Cert.ReferenceIdeal.Facts] : Cert.algebraic_KernelIdeal_ReferenceIdeal := by
  intro m g m' g' _ hargs
  refine ⟨fun c => W4 m g c (Proc.devRef .tc Cert.KernelIdeal.main_v6), fun c => W4 m g c (Proc.devRef .tc Cert.KernelIdeal.main_v5),
    fun c => W4 m g c (Proc.devRef .tc Cert.KernelIdeal.main_v7), ?_, ?_⟩
  · exact (θ_run Cert.KernelIdeal.defs _ _).mono (fun _ h c =>
      ⟨h.1 c _ (mem_uc Cert.KernelIdeal.main_v6 (by decide)), h.1 c _ (mem_uc Cert.KernelIdeal.main_v5 (by decide)),
       h.1 c _ (mem_uc Cert.KernelIdeal.main_v7 (by decide)),
       (h.1 c _ (mem_uc Cert.KernelIdeal.main_arg0 (by decide))).trans (W4_main_arg0 m g c),
       (h.1 c _ (mem_uc Cert.KernelIdeal.main_arg1 (by decide))).trans (W4_main_arg1 m g c),
       (h.1 c _ (mem_uc Cert.KernelIdeal.main_arg2 (by decide))).trans (W4_main_arg2 m g c),
       (h.1 c _ (mem_uc Cert.KernelIdeal.main_arg3 (by decide))).trans (W4_main_arg3 m g c),
       (h.1 c _ (mem_uc Cert.KernelIdeal.main_arg4 (by decide))).trans (W4_main_arg4 m g c),
       (h.1 c _ (mem_uc Cert.KernelIdeal.main_arg5 (by decide))).trans (W4_main_arg5 m g c),
       (h.1 c _ (mem_uc Cert.KernelIdeal.main_arg6 (by decide))).trans (W4_main_arg6 m g c)⟩) (run_all m g)
  · refine (θ_run Cert.ReferenceIdeal.defs _ _).mono (fun _ h c => ?_) (Cert.ReferenceIdeal.Value.run_blocks m' g')
    obtain ⟨h0, h1, h2, h3⟩ := h c
    obtain ⟨a0, a1, a2, a3, a4, a5, a6⟩ := hargs c
    have e0 : RefArr.cd m' c = Val.cd m c := by unfold RefArr.cd Val.cd; rw [a0]
    have e1 : RefArr.sx m' c = Val.sx m c := by unfold RefArr.sx Val.sx; rw [a1]
    have e2 : RefArr.rs m' c = Val.rs m c := by unfold RefArr.rs Val.rs; rw [a2]
    have e3 : RefArr.ga m' c = Val.ga m c := by funext d; unfold RefArr.ga Val.ga; rw [a3]
    have e4 : RefArr.wc m' c = Val.wc m c := by funext d k; unfold RefArr.wc Val.wc; rw [a4]
    have e5 : RefArr.ws m' c = Val.ws m c := by funext k; unfold RefArr.ws Val.ws; rw [a5]
    have e6 : RefArr.dq m' c = Val.dq m c := by unfold RefArr.dq Val.dq; rw [a6]
    refine ⟨h0.trans ?_, h1.trans ?_, h2.trans ?_, h3⟩
    · rw [RefArr.arr7, e0, e1, e2, e3, e4, e5, e6]
      exact (Val.res0 m g c).symm
    · rw [RefArr.arr8, e0, e1, e2, e3, e6]
      exact (Val.res1 m g c).symm
    · rw [RefArr.arr9, e0, e1, e2, e4, e5, e6]
      exact (Val.res2 m g c).symm

end Cert.Proof.Alg
-- ==== Proof.Same.lean ====
/-
   THE KERNEL AS PRINTED AND ITS IDEAL READING are one program text, so that what is proved of one, for any reading of the floats, holds of the other. -/
module

public import proofs.«01_k».proof.Defs
public import proofs.«01_k».proof.Proof.KIMain
public import proofs.«01_k».proof.Proof.Gen.Kernel

@[expose] public section

set_option maxRecDepth 16384

noncomputable section

namespace Cert.Proof.Same

open Idealize.ShloMosaic Idealize.SL.Sem

variable {F : FTy → Type} [FloatOps F]

/-- The two texts have the same kernel bodies. -/
theorem bodies : (Cert.Kernel.defs₀ (F := F)) = Cert.KernelIdeal.defs₀ (F := F) := by
  unfold Cert.Kernel.defs₀ Cert.KernelIdeal.defs₀
  refine congrArg (Defs.onTc (Λ := Cert.Kernel.Λ₀)) ?_
  funext l a
  match l, a with
  | 0, (t, s) => rfl
  | 1, (t, s) => rfl

/-- The two texts have the same pipelines over them. -/
theorem tables : (Cert.Kernel.defs (F := F)) = Cert.KernelIdeal.defs (F := F) := by
  unfold Cert.Kernel.defs Cert.KernelIdeal.defs
  rw [bodies]
  rfl

/-- The two texts have the same host lines. -/
theorem mains : (Cert.Kernel.main (F := F)) = Cert.KernelIdeal.main (F := F) := rfl

/-- The frame of the kernel as printed: it ends without fault, its arguments unchanged and its semaphores at zero. -/
theorem frame : Cert.quiescent_Kernel := by
  intro m g _
  have h := Cert.Proof.KI.frame (F := Bits) m g
  rw [← tables, ← mains] at h
  exact h

end Cert.Proof.Same

end
-- ==== Proof.lean ====
/-
   THE CERTIFICATE `Cert.Claim`: the frames of the kernel, of its ideal reading and of the reference, the ideal reading
   as the kernel's own text, and the equality of the results. Each part is proved in a module of Proof/. -/
module

public import proofs.«01_k».proof.Defs
public import proofs.«01_k».proof.Proof.Alg
public import proofs.«01_k».proof.Proof.KIMain
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- All five claims. -/
theorem claim : Cert.Claim := ⟨Cert.Kernel.Gen.facts, Cert.KernelIdeal.Gen.facts, Cert.ReferenceIdeal.Gen.facts,
  Cert.Proof.Same.frame, fun m ρ _ => Cert.Proof.KI.frame m ρ,
  fun m ρ _ => Cert.ReferenceIdeal.Gen.frame m ρ, trivial, Cert.Proof.Alg.algebraic⟩

end Cert.Proof

end
